-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = Layout.block ⟨2, ![512, 256]⟩ ⟨2, ![16384, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S512x256 : Shape := ⟨2, ![512, 256]⟩
abbrev S512 : Shape := ⟨1, ![512]⟩
abbrev S32 : Shape := ⟨1, ![32]⟩
abbrev S1x512 : Shape := ⟨2, ![1, 512]⟩
abbrev S32x1 : Shape := ⟨2, ![32, 1]⟩
abbrev S32x512 : Shape := ⟨2, ![32, 512]⟩
abbrev S_ : Shape := ⟨0, ![]⟩

class Facts : Prop where
  bcast_S512_S1x512_1 : S512.BroadcastsInDim S1x512 (![1] : Fin 1 → Fin S1x512.rank)
  bcast_S32_S32x1_0 : S32.BroadcastsInDim S32x1 (![0] : Fin 1 → Fin S32x1.rank)
  bcast_S1x512_S32x512_0_1 : S1x512.BroadcastsInDim S32x512 (![0, 1] : Fin 2 → Fin S32x512.rank)
  bcast_S32x1_S32x512_0_1 : S32x1.BroadcastsInDim S32x512 (![0, 1] : Fin 2 → Fin S32x512.rank)
  natLt_1_32 : 1 < 32
  reducesTo_S32x512_S32_d1 : S32x512.ReducesTo [1] S32
  h_S_ : 0 < S_.numel
  bcast_S_S32 : S_.BroadcastsInDim S32 (![] : Fin 0 → Fin S32.rank)

variable [Facts]

def fn {F : FTy → Type} [FloatOps F] (main_arg0 : FVec F S512x256 .bf16) (main_arg1 : IVec S512 32) : IVec S32 1 :=
  let main_v0 : IVec S32 32 := iotaInDim S32 32 0
  let main_v1 : IVec S1x512 32 := broadcastInDim S1x512 ![1] bcast_S512_S1x512_1 main_arg1
  let main_v2 : IVec S32x1 32 := broadcastInDim S32x1 ![0] bcast_S32_S32x1_0 main_v0
  let main_v3 : IVec S32x512 32 := broadcastInDim S32x512 ![0, 1] bcast_S1x512_S32x512_0_1 main_v1
  let main_v4 : IVec S32x512 32 := broadcastInDim S32x512 ![0, 1] bcast_S32x1_S32x512_0_1 main_v2
  let main_v5 : IVec S32x512 1 := cmpi .eq main_v3 main_v4
  let main_v6 : IVec S32x512 32 := (extui 32 · natLt_1_32) main_v5
  let main_c : IVec S_ 32 := constantI S_ 32 0#32
  let main_v7 : IVec S32 32 := (fun x v => Host.reduce IntOp.addi x v reducesTo_S32x512_S32_d1 h_S_) main_v6 main_c
  let main_c_0 : IVec S_ 32 := constantI S_ 32 16#32
  let main_v8 : IVec S32 32 := broadcastInDim S32 ![] bcast_S_S32 main_c_0
  let main_v9 : IVec S32 1 := cmpi .eq main_v7 main_v8
  main_v9
-- ==== Pre_balanced_ReferenceIdeal.lean ====
abbrev S16384x256 : Shape := ⟨2, ![16384, 256]⟩
abbrev S16384 : Shape := ⟨1, ![16384]⟩
abbrev S32 : Shape := ⟨1, ![32]⟩
abbrev S1x16384 : Shape := ⟨2, ![1, 16384]⟩
abbrev S32x1 : Shape := ⟨2, ![32, 1]⟩
abbrev S32x16384 : Shape := ⟨2, ![32, 16384]⟩
abbrev S_ : Shape := ⟨0, ![]⟩

class Facts : Prop where
  bcast_S16384_S1x16384_1 : S16384.BroadcastsInDim S1x16384 (![1] : Fin 1 → Fin S1x16384.rank)
  bcast_S32_S32x1_0 : S32.BroadcastsInDim S32x1 (![0] : Fin 1 → Fin S32x1.rank)
  bcast_S1x16384_S32x16384_0_1 : S1x16384.BroadcastsInDim S32x16384 (![0, 1] : Fin 2 → Fin S32x16384.rank)
  bcast_S32x1_S32x16384_0_1 : S32x1.BroadcastsInDim S32x16384 (![0, 1] : Fin 2 → Fin S32x16384.rank)
  natLt_1_32 : 1 < 32
  reducesTo_S32x16384_S32_d1 : S32x16384.ReducesTo [1] S32
  h_S_ : 0 < S_.numel
  bcast_S_S32 : S_.BroadcastsInDim S32 (![] : Fin 0 → Fin S32.rank)

variable [Facts]

def fn {F : FTy → Type} [FloatOps F] (main_arg0 : FVec F S16384x256 .bf16) (main_arg1 : IVec S16384 32) : IVec S32 1 :=
  let main_v0 : IVec S32 32 := iotaInDim S32 32 0
  let main_v1 : IVec S1x16384 32 := broadcastInDim S1x16384 ![1] bcast_S16384_S1x16384_1 main_arg1
  let main_v2 : IVec S32x1 32 := broadcastInDim S32x1 ![0] bcast_S32_S32x1_0 main_v0
  let main_v3 : IVec S32x16384 32 := broadcastInDim S32x16384 ![0, 1] bcast_S1x16384_S32x16384_0_1 main_v1
  let main_v4 : IVec S32x16384 32 := broadcastInDim S32x16384 ![0, 1] bcast_S32x1_S32x16384_0_1 main_v2
  let main_v5 : IVec S32x16384 1 := cmpi .eq main_v3 main_v4
  let main_v6 : IVec S32x16384 32 := (extui 32 · natLt_1_32) main_v5
  let main_c : IVec S_ 32 := constantI S_ 32 0#32
  let main_v7 : IVec S32 32 := (fun x v => Host.reduce IntOp.addi x v reducesTo_S32x16384_S32_d1 h_S_) main_v6 main_c
  let main_c_0 : IVec S_ 32 := constantI S_ 32 16#32
  let main_v8 : IVec S32 32 := broadcastInDim S32 ![] bcast_S_S32 main_c_0
  let main_v9 : IVec S32 1 := cmpi .eq main_v7 main_v8
  main_v9
-- ==== Kernel.lean ====
abbrev S512x256 : Shape := ⟨2, ![512, 256]⟩
abbrev S512 : Shape := ⟨1, ![512]⟩
abbrev S_ : Shape := ⟨0, ![]⟩
abbrev S128 : Shape := ⟨1, ![128]⟩
abbrev S4096 : Shape := ⟨1, ![4096]⟩
abbrev S128x512 : Shape := ⟨2, ![128, 512]⟩
abbrev S1x512 : Shape := ⟨2, ![1, 512]⟩
abbrev S32x128 : Shape := ⟨2, ![32, 128]⟩
abbrev S32 : Shape := ⟨1, ![32]⟩
abbrev S4096x1 : Shape := ⟨2, ![4096, 1]⟩
abbrev S512x1x256 : Shape := ⟨3, ![512, 1, 256]⟩
abbrev S1 : Shape := ⟨1, ![1]⟩
abbrev S1x1x256 : Shape := ⟨3, ![1, 1, 256]⟩

abbrev nBuf : Space → Nat
  | .hbm => 30
  | .vmem => 2
  | .smem => 3
  | _ => 0

abbrev bufTy : (tb : Table) → Fin (tcTables nBuf tb) → BufTy
  | .hbm, ⟨0, _⟩ => ⟨S512x256, .bf16⟩
  | .hbm, ⟨1, _⟩ => ⟨S512, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S4096, .i32⟩
  | .hbm, ⟨10, _⟩ => ⟨S32x128, .i32⟩
  | .hbm, ⟨11, _⟩ => ⟨S4096, .i32⟩
  | .hbm, ⟨12, _⟩ => ⟨S32x128, .i32⟩
  | .hbm, ⟨13, _⟩ => ⟨S4096, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S32, .i32⟩
  | .hbm, ⟨25, _⟩ => ⟨S4096x1, .i32⟩
  | .hbm, ⟨26, _⟩ => ⟨S32, .i32⟩
  | .hbm, ⟨27, _⟩ => ⟨S512x1x256, .bf16⟩
  | .hbm, ⟨28, _⟩ => ⟨S512x1x256, .bf16⟩
  | .hbm, ⟨29, _⟩ => ⟨S512x256, .bf16⟩
  | .local _ .vmem, ⟨0, _⟩ => ⟨S512, .i32⟩
  | .local _ .vmem, ⟨1, _⟩ => ⟨S128, .i32⟩
  | .local _ .smem, ⟨0, _⟩ => ⟨S512, .i32⟩
  | .local _ .smem, ⟨1, _⟩ => ⟨S32, .i32⟩
  | .local _ .smem, ⟨2, _⟩ => ⟨S32, .i32⟩
  | _, _ => ⟨S512x256, .bf16⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => true
  | ⟨2, _⟩ => false
  | ⟨3, _⟩ => true
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 4 8 bufScoped semScoped dmaSemScoped tileCredit tileCredit_eq_zero tileCredit_pos).withBarriers [(0, 0), (1, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_scratch0 : Ref sig .tc := ⟨.vmem, 1, rfl⟩
abbrev cc1_stg0_0 : Ref sig .tc := ⟨.smem, 0, rfl⟩
abbrev cc1_stg1_0 : Ref sig .tc := ⟨.smem, 1, rfl⟩
abbrev cc1_scratch0 : Ref sig .tc := ⟨.smem, 2, rfl⟩
abbrev cc0_sem0_0 : DmaSem sig := 0
abbrev cc1_sem0_0 : DmaSem sig := 4
abbrev cc1_sem1_0 : DmaSem sig := 5
abbrev barrier0 : Sem sig := 0
abbrev barrier1 : Sem sig := 2

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg7 : BitVec 32 := Scf.iv c1_i32_0 c1_i32_1 k0_t1
  let v22 : BitVec 32 := Scalar.addi v2 arg7
  let c32_i32_14 : BitVec 32 := 32#32
  let v23 : BitVec 32 := Scalar.remsi v22 c32_i32_14
  let c1_i32_16 : BitVec 32 := 1#32
  let v24 : BitVec 32 := Scalar.muli v23 c1_i32_16
  let v25 : BitVec 32 := Scalar.addi c0_i32_17 v24
  v25.toNat
def k0_mult1 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v17 : BitVec 32 := Scalar.muli v2 c128_i32
  v17
@[reducible] def k0_t2_loop : Scf.Loop 32 :=
  let c0_i32 : BitVec 32 := 0#32
  let c32_i32_5 : BitVec 32 := 32#32
  let v19 : BitVec 32 := Scalar.addi c0_i32 c32_i32_5
  let c1_i32_6 : BitVec 32 := 1#32
  ⟨c0_i32, v19, c1_i32_6⟩
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v17 : BitVec 32 := Scalar.muli v2 c128_i32
  let v18 : BitVec 32 := v17
  ![v18.toNat]
def k0_dev2 (d0 : Dev nD) (k0_t2 : Fin k0_t2_loop.trips) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let c1_i32_6 : BitVec 32 := 1#32
  let arg7 : BitVec 32 := Scf.iv c0_i32 c1_i32_6 k0_t2
  let v22 : BitVec 32 := Scalar.addi v2 arg7
  let c32_i32_14 : BitVec 32 := 32#32
  let v23 : BitVec 32 := Scalar.remsi v22 c32_i32_14
  let c1_i32_15 : BitVec 32 := 1#32
  let v24 : BitVec 32 := Scalar.muli v23 c1_i32_15
  let v25 : BitVec 32 := Scalar.addi c0_i32_16 v24
  v25.toNat
@[reducible] def k0_t3_loop : Scf.Loop 32 :=
  let c0_i32_8 : BitVec 32 := 0#32
  let c32_i32_9 : BitVec 32 := 32#32
  let v20 : BitVec 32 := Scalar.addi c0_i32_8 c32_i32_9
  let c1_i32_10 : BitVec 32 := 1#32
  ⟨c0_i32_8, v20, c1_i32_10⟩
@[reducible] def k0_t4_loop : Scf.Loop 32 :=
  let c0_i32_11 : BitVec 32 := 0#32
  let c32_i32_12 : BitVec 32 := 32#32
  let v21 : BitVec 32 := Scalar.addi c0_i32_11 c32_i32_12
  let c1_i32_13 : BitVec 32 := 1#32
  ⟨c0_i32_11, v21, c1_i32_13⟩
@[reducible] def k0_t5_loop : Scf.Loop 32 :=
  let c1_i32_15_r0 : BitVec 32 := 1#32
  let c31_i32_16_r0 : BitVec 32 := 31#32
  let v23_r0 : BitVec 32 := Scalar.addi c1_i32_15_r0 c31_i32_16_r0
  let c1_i32_17_r0 : BitVec 32 := 1#32
  ⟨c1_i32_15_r0, v23_r0, c1_i32_17_r0⟩
def k0_dev3 (d0 : Dev nD) (k0_t5 : Fin k0_t5_loop.trips) : Nat :=
  let c0_i32_24_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_15_r0 : BitVec 32 := 1#32
  let c1_i32_17_r0 : BitVec 32 := 1#32
  let arg7_r0 : BitVec 32 := Scf.iv c1_i32_15_r0 c1_i32_17_r0 k0_t5
  let v25_r0 : BitVec 32 := Scalar.addi v2 arg7_r0
  let c32_i32_21_r0 : BitVec 32 := 32#32
  let v26_r0 : BitVec 32 := Scalar.remsi v25_r0 c32_i32_21_r0
  let c1_i32_23_r0 : BitVec 32 := 1#32
  let v27_r0 : BitVec 32 := Scalar.muli v26_r0 c1_i32_23_r0
  let v28_r0 : BitVec 32 := Scalar.addi c0_i32_24_r0 v27_r0
  v28_r0.toNat
abbrev stage0_0 : Fin 1 → Memref sig .tc .vmem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

@[reducible] def k1_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k1_dev1 (d0 : Dev nD) (k1_t1 : Fin k1_t1_loop.trips) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg8 : BitVec 32 := Scf.iv c1_i32_0 c1_i32_1 k1_t1
  let v9 : BitVec 32 := Scalar.addi v2 arg8
  let c32_i32_16 : BitVec 32 := 32#32
  let v10 : BitVec 32 := Scalar.remsi v9 c32_i32_16
  let c1_i32_18 : BitVec 32 := 1#32
  let v11 : BitVec 32 := Scalar.muli v10 c1_i32_18
  let v12 : BitVec 32 := Scalar.addi c0_i32_19 v11
  v12.toNat
@[reducible] def k1_t2_loop : Scf.Loop 32 :=
  let c0_i32 : BitVec 32 := 0#32
  let c32_i32_4 : BitVec 32 := 32#32
  let v5 : BitVec 32 := Scalar.addi c0_i32 c32_i32_4
  let c1_i32_5 : BitVec 32 := 1#32
  ⟨c0_i32, v5, c1_i32_5⟩
def k1_off1 (k1_t2 : Fin k1_t2_loop.trips) : Fin 1 → Nat :=
  let c0_i32 : BitVec 32 := 0#32
  let c1_i32_5 : BitVec 32 := 1#32
  let arg8 : BitVec 32 := Scf.iv c0_i32 c1_i32_5 k1_t2
  let v9 : Index := Scalar.indexCast arg8
  ![v9.toNat]
@[reducible] def k1_t3_loop : Scf.Loop 32 :=
  let c0_i32_7 : BitVec 32 := 0#32
  let c512_i32 : BitVec 32 := 512#32
  let v6 : BitVec 32 := Scalar.addi c0_i32_7 c512_i32
  let c1_i32_8 : BitVec 32 := 1#32
  ⟨c0_i32_7, v6, c1_i32_8⟩
def k1_off2 (k1_t3 : Fin k1_t3_loop.trips) : Fin 1 → Nat :=
  let c0_i32_7 : BitVec 32 := 0#32
  let c1_i32_8 : BitVec 32 := 1#32
  let arg8 : BitVec 32 := Scf.iv c0_i32_7 c1_i32_8 k1_t3
  let v9 : Index := Scalar.indexCast arg8
  ![v9.toNat]
def k1_off3 (v10 : BitVec 32) : Fin 1 → Nat :=
  let v11 : Index := Scalar.indexCast v10
  ![v11.toNat]

def k1_off4 (v12 : BitVec 32) (v14 : BitVec 32) : Fin 3 → Nat :=
  let v15 : BitVec 32 := Scalar.addi v12 v14
  let c0_i32_19 : BitVec 32 := 0#32
  let c0_i32_20 : BitVec 32 := 0#32
  ![v15.toNat, 0, 0]

def k1_off5 (k1_t3 : Fin k1_t3_loop.trips) : Fin 3 → Nat :=
  let c0_i32_7 : BitVec 32 := 0#32
  let c1_i32_8 : BitVec 32 := 1#32
  let arg8 : BitVec 32 := Scf.iv c0_i32_7 c1_i32_8 k1_t3
  let c0_i32_21 : BitVec 32 := 0#32
  let c0_i32_22 : BitVec 32 := 0#32
  ![arg8.toNat, 0, 0]

def k1_chk2 (v12 : BitVec 32) (v14 : BitVec 32) : Prop :=
  (∀ a, (k1_off4 v12 v14) a + S1x1x256.size a ≤ S512x1x256.size a) ∧
  (∀ (hinb : ∀ a, (k1_off4 v12 v14) a + S1x1x256.size a ≤ S512x1x256.size a), (Rect.unit (s := S512x1x256) (k1_off4 v12 v14) S1x1x256.size hinb).WholeWords (EltTy.packing .bf16))
theorem k1_off4_inb : ∀ (v12 : BitVec 32) (v14 : BitVec 32) (k1_hw2 : k1_chk2 v12 v14), ∀ a, (k1_off4 v12 v14) a + S1x1x256.size a ≤ S512x1x256.size a := fun v12 v14 k1_hw2 => k1_hw2.1
theorem k1_off4_wordsbf16 : ∀ (v12 : BitVec 32) (v14 : BitVec 32) (k1_hw2 : k1_chk2 v12 v14), (Rect.unit (s := S512x1x256) (k1_off4 v12 v14) S1x1x256.size (k1_off4_inb v12 v14 k1_hw2)).WholeWords (EltTy.packing .bf16) := fun v12 v14 k1_hw2 => k1_hw2.2 (k1_off4_inb v12 v14 k1_hw2)

def k1_dev2 (v10 : BitVec 32) : Nat :=
  let c0_i32_18 : BitVec 32 := 0#32
  let c1_i32_17 : BitVec 32 := 1#32
  let v21 : BitVec 32 := Scalar.muli v10 c1_i32_17
  let v22 : BitVec 32 := Scalar.addi c0_i32_18 v21
  v22.toNat

def k1_chk1 (v10 : BitVec 32) : Prop :=
  (∀ a, (k1_off3 v10) a + S1.size a ≤ S32.size a) ∧
  ((k1_dev2 v10) < nD)
theorem k1_off3_inb : ∀ (v10 : BitVec 32) (k1_hw1 : k1_chk1 v10), ∀ a, (k1_off3 v10) a + S1.size a ≤ S32.size a := fun v10 k1_hw1 => k1_hw1.1
theorem k1_dev2_lt : ∀ (v10 : BitVec 32) (k1_hw1 : k1_chk1 v10), (k1_dev2 v10) < nD := fun v10 k1_hw1 => k1_hw1.2

@[reducible] def k1_t4_loop : Scf.Loop 32 :=
  let c0_i32_10 : BitVec 32 := 0#32
  let c32_i32_11 : BitVec 32 := 32#32
  let v7 : BitVec 32 := Scalar.addi c0_i32_10 c32_i32_11
  let c1_i32_12 : BitVec 32 := 1#32
  ⟨c0_i32_10, v7, c1_i32_12⟩
@[reducible] def k1_t5_loop : Scf.Loop 32 :=
  let c0_i32_13 : BitVec 32 := 0#32
  let c512_i32_14 : BitVec 32 := 512#32
  let v8 : BitVec 32 := Scalar.addi c0_i32_13 c512_i32_14
  let c1_i32_15 : BitVec 32 := 1#32
  ⟨c0_i32_13, v8, c1_i32_15⟩
@[reducible] def k1_t6_loop : Scf.Loop 32 :=
  let c1_i32_17_r0 : BitVec 32 := 1#32
  let c31_i32_18_r0 : BitVec 32 := 31#32
  let v10_r0 : BitVec 32 := Scalar.addi c1_i32_17_r0 c31_i32_18_r0
  let c1_i32_19_r0 : BitVec 32 := 1#32
  ⟨c1_i32_17_r0, v10_r0, c1_i32_19_r0⟩
def k1_dev3 (d0 : Dev nD) (k1_t6 : Fin k1_t6_loop.trips) : Nat :=
  let c0_i32_26_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17_r0 : BitVec 32 := 1#32
  let c1_i32_19_r0 : BitVec 32 := 1#32
  let arg8_r0 : BitVec 32 := Scf.iv c1_i32_17_r0 c1_i32_19_r0 k1_t6
  let v12_r0 : BitVec 32 := Scalar.addi v2 arg8_r0
  let c32_i32_23_r0 : BitVec 32 := 32#32
  let v13_r0 : BitVec 32 := Scalar.remsi v12_r0 c32_i32_23_r0
  let c1_i32_25_r0 : BitVec 32 := 1#32
  let v14_r0 : BitVec 32 := Scalar.muli v13_r0 c1_i32_25_r0
  let v15_r0 : BitVec 32 := Scalar.addi c0_i32_26_r0 v14_r0
  v15_r0.toNat
abbrev stage1_0 : Fin 1 → Memref sig .tc .smem S512 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S32 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S16384x256 : Shape := ⟨2, ![16384, 256]⟩
abbrev S16384 : Shape := ⟨1, ![16384]⟩
abbrev S_ : Shape := ⟨0, ![]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Talk.lean ====
/- The protocol of the two calls, written down once for every device: the cells (semaphores), who pays which of them,
   what each payment hands over, what every device owes when the program starts, and the order (levels) in which cells
   are waited on. -/
module

public import proofs.«01_k».proof.Defs
public import proofs.«01_k».proof.Proof.Gen.KernelIdeal.Points
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.ShareLeaves
public import Idealize.ShloMosaic.PureOps
public import Idealize.ShloMosaic.Lib.Pipeline.RegionTalk

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type}

/-! ## The resource algebra -/

/-- A payment is named by the device that pays and the number of the trip in which it pays. -/
abbrev Duty : Type := Dev nD × ℕ

/-- Two copies: the staging pipeline's, and the one of the protocol stated here. -/
abbrev UU : Type := UR sig nD τ × URounds (GSem nD τ sig) Duty

local notation "𝕄" => MT nD τ sig Unit (Elt F) ℕ UU ℕ

/-- The staging pipeline's part of the ghost state, -/
abbrev EP : Emb (UR sig nD τ) (MT nD τ sig Unit (Elt F) ℕ UU ℕ) := embL
/-- and this protocol's. -/
abbrev ER : Emb (URounds (GSem nD τ sig) Duty) (MT nD τ sig Unit (Elt F) ℕ UU ℕ) := embR

/-! ## The kinds of cell -/

/-- The semaphores that the two calls use themselves: each call's entry barrier, its copy, send and receive semaphores,
    and its closing barrier. -/
inductive Kd where
  | bar0 | copy | send0 | recv0 | end0 | bar1 | send1 | recv1 | end1
  deriving DecidableEq

instance : Fintype Kd :=
  ⟨{.bar0, .copy, .send0, .recv0, .end0, .bar1, .send1, .recv1, .end1}, fun k => by cases k <;> decide⟩

/-- The semaphore of a kind. -/
def semOf : Kd → SemLoc sig
  | .bar0 => .reg ⟨0, by decide⟩
  | .copy => .dma ⟨1, by decide⟩
  | .send0 => .dma ⟨2, by decide⟩
  | .recv0 => .dma ⟨3, by decide⟩
  | .end0 => .reg ⟨1, by decide⟩
  | .bar1 => .reg ⟨2, by decide⟩
  | .send1 => .dma ⟨6, by decide⟩
  | .recv1 => .dma ⟨7, by decide⟩
  | .end1 => .reg ⟨3, by decide⟩

/-- The kind of a semaphore, if it is one of those. -/
def kdOf : SemLoc sig → Option Kd
  | .reg s => if s.val = 0 then some .bar0 else if s.val = 1 then some .end0 else if s.val = 2 then some .bar1
      else if s.val = 3 then some .end1 else none
  | .dma s => if s.val = 1 then some .copy else if s.val = 2 then some .send0 else if s.val = 3 then some .recv0
      else if s.val = 6 then some .send1 else if s.val = 7 then some .recv1 else none

/-- The kind of a kind's semaphore is that kind, -/
theorem kdOf_semOf (k : Kd) : kdOf (semOf k) = some k := by cases k <;> rfl

/-- so two kinds have two semaphores, -/
theorem semOf_inj {k k' : Kd} (h : semOf k = semOf k') : k = k' := by
  have := congrArg kdOf h
  rw [kdOf_semOf, kdOf_semOf] at this
  exact Option.some.inj this

/-- The cell of kind k on device c. -/
abbrev cell (k : Kd) (c : Dev nD) : GSem nD τ sig := ((c : Thread nD τ), semOf k)

/-- and two kinds or devices two cells. -/
theorem cell_inj {k k' : Kd} {c c' : Dev nD} (h : cell k c = cell k' c') : k = k' ∧ c = c' :=
  ⟨semOf_inj (congrArg Prod.snd h), congrArg (fun g : GSem nD τ sig => g.1.1) h⟩

/-- How many payments a device makes to cells of a kind. -/
def num : Kd → ℕ
  | .bar0 | .end0 | .bar1 | .end1 => 31
  | .copy => 1
  | .send0 | .recv0 => 32
  | .send1 | .recv1 => 512

/-- Every kind is paid. -/
theorem num_pos (k : Kd) : 0 < num k := by cases k <;> decide

/-! ## Parts of buffers -/

/-- The part of the gathered counts that device c fills. -/
def slotSet (c : Dev nD) : Finset S4096.Idx := Finset.univ.filter fun e => (e 0).val / 128 = c.val

/-- Row p of a device's 512 rows of 256 words. -/
def rowSet (p : ℕ) : Finset S512x1x256.Idx := Finset.univ.filter fun e => (e 0).val = p

/-- An entry is in the part of the device that its row of 128 names. -/
theorem mem_slotSet {c : Dev nD} {e : S4096.Idx} : e ∈ slotSet c ↔ (e 0).val / 128 = c.val := by simp [slotSet]
/-- An entry is in the row that its first coordinate names. -/
theorem mem_rowSet {p : ℕ} {e : S512x1x256.Idx} : e ∈ rowSet p ↔ (e 0).val = p := by simp [rowSet]

/-- The amount of one payment. -/
def amt : Kd → ℕ
  | .bar0 | .end0 | .bar1 | .end1 => 1
  | .copy | .send0 | .recv0 => (Memref.whole main_v5_0).view.dmaCredit
  | .send1 | .recv1 => ((Memref.whole main_v21).slice (Rect.unit (s := S512x1x256) ![0, 0, 0] S1x1x256.size (by decide)) (fun _ => rfl)).view.dmaCredit

/-- A payment is of something. -/
theorem amt_pos (k : Kd) : 0 < amt k := by
  cases k <;> first | exact Nat.one_pos | exact View.dmaCredit_pos _ (by decide)

/-! ## What the protocol is about -/

/-- What the protocol depends on: the destination and the landing row of every row of every device, and the contents of
    the buffers the calls hand about. -/
structure Plan (F : FTy → Type) where
  /-- where device p's row j goes -/
  dst : Dev nD → ℕ → Dev nD
  /-- the row of its destination in which it lands -/
  pos : Dev nD → ℕ → ℕ
  /-- what every device counts -/
  cnt : S128.Idx → Elt F .i32
  /-- what every device gathers -/
  gat : S4096.Idx → Elt F .i32
  /-- what device c sends -/
  X : Dev nD → S512x1x256.Idx → Elt F .bf16
  /-- what device c receives -/
  Y : Dev nD → S512x1x256.Idx → Elt F .bf16
  /-- every device is sent 512 rows -/
  bal : ∀ c, ((Finset.univ ×ˢ Finset.range 512).filter fun x : Duty => dst x.1 x.2 = c).card = 512
  pos_lt : ∀ p j, j < 512 → pos p j < 512
  /-- of the rows sent to one device no two land in the same place -/
  pos_inj : ∀ p j p' j', j < 512 → j' < 512 → dst p j = dst p' j' → pos p j = pos p' j' → p = p' ∧ j = j'
  /-- what device c receives in a row is what was sent there -/
  land : ∀ p j (e e' : S512x1x256.Idx), j < 512 → (e 0).val = j → (e' 0).val = pos p j →
    (e 2).val = (e' 2).val → Y (dst p j) e' = X p e

variable (P : Plan F)

/-- The n-th device after c. -/
def peer (c : Dev nD) (n : ℕ) : Dev nD := ⟨(c.val + n) % 32, Nat.mod_lt _ (by decide)⟩

/-- The device whose cell of kind k device p pays in trip j. -/
def tgt : Kd → Dev nD → ℕ → Dev nD
  | .bar0, p, j | .end0, p, j | .bar1, p, j | .end1, p, j => peer p (j + 1)
  | .copy, p, _ | .send0, p, _ | .send1, p, _ => p
  | .recv0, p, j => peer p j
  | .recv1, p, j => P.dst p j

/-- The payments to device c's cell of kind k. -/
def dut (k : Kd) (c : Dev nD) : Finset Duty :=
  (Finset.univ ×ˢ Finset.range (num k)).filter fun x => tgt P k x.1 x.2 = c

/-- The payments to a cell are those aimed at its device. -/
theorem mem_dut {k : Kd} {c : Dev nD} {x : Duty} : x ∈ dut P k c ↔ x.2 < num k ∧ tgt P k x.1 x.2 = c := by
  simp [dut]

/-- Each payment is one to its aim. -/
theorem mem_dut_tgt {k : Kd} {p : Dev nD} {j : ℕ} (h : j < num k) : ((p, j) : Duty) ∈ dut P k (tgt P k p j) :=
  (mem_dut P).2 ⟨h, rfl⟩

/-- The n-th device before c. -/
def back (c : Dev nD) (n : ℕ) : Dev nD := ⟨(c.val + (32 - n % 32)) % 32, Nat.mod_lt _ (by decide)⟩

/-- So many on from so many back is the device itself, -/
theorem peer_back (c : Dev nD) (n : ℕ) : peer (back c n) n = c := by
  apply Fin.ext; have h : c.val < 32 := c.isLt; simp only [peer, back]; omega
/-- and so many back from so many on. -/
theorem back_peer (c : Dev nD) (n : ℕ) : back (peer c n) n = c := by
  apply Fin.ext; have h : c.val < 32 := c.isLt; simp only [peer, back]; omega

/-- The device that pays device c's cell of kind k in trip j (of the last receive cells there is no such rule). -/
def src : Kd → Dev nD → ℕ → Dev nD
  | .bar0, c, j | .end0, c, j | .bar1, c, j | .end1, c, j => back c (j + 1)
  | .copy, c, _ | .send0, c, _ | .send1, c, _ => c
  | .recv0, c, j => back c j
  | .recv1, c, _ => c

/-- Where a cell is not the second call's arrivals, its payer is known by the trip. -/
theorem tgt_iff {k : Kd} (hk : k ≠ .recv1) (p c : Dev nD) (j : ℕ) : tgt P k p j = c ↔ p = src k c j := by
  cases k
  case recv1 => exact absurd rfl hk
  all_goals
    simp only [tgt, src]
    try (constructor <;> (intro h; subst h; first | exact (back_peer _ _).symm | exact peer_back _ _))

/-- The payments to a cell, one for each trip. -/
theorem dut_eq {k : Kd} (hk : k ≠ .recv1) (c : Dev nD) :
    dut P k c = (Finset.range (num k)).map ⟨fun j => (src k c j, j), fun _ _ h => congrArg Prod.snd h⟩ := by
  ext ⟨p, j⟩
  rw [mem_dut, tgt_iff P hk, Finset.mem_map]
  constructor
  · intro h
    exact ⟨j, Finset.mem_range.2 h.1, Prod.ext h.2.symm rfl⟩
  · rintro ⟨j', h, h1⟩
    have h2 : j' = j := congrArg Prod.snd h1
    subst h2
    exact ⟨Finset.mem_range.1 h, (congrArg Prod.fst h1).symm⟩

/-- A cell receives as many payments as a device makes. -/
theorem card_dut (k : Kd) (c : Dev nD) : (dut P k c).card = num k := by
  by_cases hk : k = .recv1
  · subst hk; exact P.bal c
  · rw [dut_eq P hk, Finset.card_map, Finset.card_range]

/-! ## What payments hand over -/

/-- The counts as they are copied to the peers, -/
abbrev v50 (c : Dev nD) (q : PosShare TreeShare) (f : S128.Idx → Elt F .i32) : sProp 𝕄 :=
  (c : Thread nD τ).loc main_v5_0 ↦{q} f
/-- and the scratch in which they are made. -/
abbrev scr0 (c : Dev nD) (f : S128.Idx → Elt F .i32) : sProp 𝕄 :=
  (c : Thread nD τ).loc cc0_scratch0 ↦{fullShare} f
/-- Device c's part s of the gathered counts, at f. -/
abbrev slotPt (c s : Dev nD) (f : S4096.Idx → Elt F .i32) : sProp 𝕄 :=
  (c : Thread nD τ).loc main_v5_1 ↦[slotSet s]{fullShare} f
/-- Row p of what device c sends, at f. -/
abbrev srcRow (c : Dev nD) (p : ℕ) (f : S512x1x256.Idx → Elt F .bf16) : sProp 𝕄 :=
  (c : Thread nD τ).loc main_v20 ↦[rowSet p]{fullShare} f
/-- Row p of what device c receives, at f. -/
abbrev dstRow (c : Dev nD) (p : ℕ) (f : S512x1x256.Idx → Elt F .bf16) : sProp 𝕄 :=
  (c : Thread nD τ).loc main_v21 ↦[rowSet p]{fullShare} f

/-- The rows device c sends to device p. -/
def rowsTo (c p : Dev nD) : Finset ℕ := (Finset.range 512).filter fun i => P.dst c i = p

/-- What payment j of device p to device c's cell of kind k hands to device c. -/
def pay : Kd → Dev nD → Dev nD → ℕ → sProp 𝕄
  | .bar0, c, p, _ => iprop((∃ f, slotPt p c f) ∗ reached ER (cell .recv0 p) 0 ∗ reached ER (cell .end0 p) 0)
  | .copy, c, _, _ => iprop(v50 c fullShare P.cnt ∗ scr0 c P.cnt)
  | .send0, c, _, j => v50 c (ShareLeaves.leaf 5 fullShare ⟨j % 32, Nat.mod_lt _ (by decide)⟩) P.cnt
  | .recv0, c, p, _ => slotPt c p P.gat
  | .end0, _, _, _ => iprop(emp)
  | .bar1, c, p, _ => iprop((bigSep (rowsTo P c p) fun i => iprop((∃ f, dstRow p (P.pos c i) f)))
      ∗ reached ER (cell .recv1 p) 0 ∗ reached ER (cell .end1 p) 0)
  | .send1, c, _, j => srcRow c j (P.X c)
  | .recv1, c, p, j => dstRow c (P.pos p j) (P.Y c)
  | .end1, _, _, _ => iprop(emp)

instance pay_storable (k : Kd) (c p : Dev nD) (j : ℕ) : BI.Storable (upEmb : UEmb _ 𝕄) (pay P k c p j) := by
  cases k <;> (unfold pay; infer_instance)

/-! ## The schedule: every payment belongs to round 0 -/

/-- The schedule of payments. -/
def rd : Rounds.Schedule (GSem nD τ sig) Duty 𝕄 where
  duties g r := if r = 0 ∧ g.1.2 = .tc then (kdOf g.2).elim ∅ fun k => dut P k g.1.1 else ∅
  amount g _ _ := (kdOf g.2).elim 1 amt
  payload g _ x := (kdOf g.2).elim iprop(emp) fun k => pay P k g.1.1 x.1 x.2
  amount_pos g _ _ _ := by
    cases kdOf g.2 with
    | none => exact Nat.one_pos
    | some k => exact amt_pos k
  unitless _ := False

instance rd_payload_storable (g : GSem nD τ sig) (r : ℕ) (x : Duty) :
    BI.Storable (upEmb : UEmb _ 𝕄) ((rd P).payload g r x) := by
  show BI.Storable upEmb ((kdOf g.2).elim iprop(emp) fun k => pay P k g.1.1 x.1 x.2)
  cases kdOf g.2 <;> (dsimp only [Option.elim]; infer_instance)

/-- The schedule's payments to a cell, -/
theorem duties_cell (k : Kd) (c : Dev nD) : (rd P).duties (cell k c) 0 = dut P k c := by
  dsimp only [rd]; rw [if_pos ⟨rfl, rfl⟩]; show (kdOf (semOf k)).elim _ _ = _; rw [kdOf_semOf]; rfl
/-- none in a later round, -/
theorem duties_later (g : GSem nD τ sig) : ∀ r, 1 ≤ r → (rd P).duties g r = ∅ := fun r hr => by
  dsimp only [rd]; exact if_neg (fun h => by omega)
/-- their amount, -/
theorem amount_cell (k : Kd) (c : Dev nD) (x : Duty) : (rd P).amount (cell k c) 0 x = amt k := by
  show (kdOf (semOf k)).elim _ _ = _; rw [kdOf_semOf]; rfl
/-- what each carries, -/
theorem payload_cell (k : Kd) (c : Dev nD) (x : Duty) : (rd P).payload (cell k c) 0 x = pay P k c x.1 x.2 := by
  show (kdOf (semOf k)).elim _ _ = _; rw [kdOf_semOf]; rfl
/-- and what all amount to. -/
theorem expect_cell (k : Kd) (c : Dev nD) : (rd P).expect (cell k c) 0 = num k * amt k := by
  unfold Schedule.expect Schedule.amountOf
  rw [duties_cell, Finset.sum_congr rfl (fun x _ => amount_cell P k c x), Finset.sum_const, card_dut, smul_eq_mul]

/-! ## What a device owes -/

/-- What device p still owes to cells of kind k before its payment j. -/
def owed (k : Kd) (p : Dev nD) (j : ℕ) : CellTallies nD τ sig Unit :=
  ∑ i ∈ Finset.Ico j (num k), tallyAt (cell k (tgt P k p i)) () (amt k)

/-- What is owed from trip j on is trip j's payment and what is owed after it. -/
theorem owed_step {k : Kd} {p : Dev nD} {j : ℕ} (h : j < num k) :
    owed P k p j = owed P k p (j + 1) + tallyAt (cell k (tgt P k p j)) () (amt k) := by
  unfold owed
  rw [Finset.sum_eq_sum_Ico_succ_bot h, add_comm]

/-- After the last trip nothing is owed. -/
theorem owed_end (k : Kd) (p : Dev nD) : owed P k p (num k) = 0 := by
  unfold owed; rw [Finset.Ico_self, Finset.sum_empty]

/-- Owed when the first call starts, and paid by it. -/
def due0 (p : Dev nD) : CellTallies nD τ sig Unit := owed P .bar0 p 0 + (owed P .recv0 p 0 + owed P .end0 p 0)
/-- Owed to the second call's cells. -/
def due1 (p : Dev nD) : CellTallies nD τ sig Unit := owed P .bar1 p 0 + (owed P .recv1 p 0 + owed P .end1 p 0)

/-! ## Levels -/

/-- The level of a kind: a device may wait on a cell only while all it owes lies higher. -/
def lvK : Kd → ℕ
  | .copy | .send0 | .send1 => 0
  | .bar0 => 1 | .recv0 => 2 | .end0 => 3 | .bar1 => 4 | .recv1 => 5 | .end1 => 6

/-- The cells with a level: those of the devices' own threads. -/
def L (g : GSem nD τ sig) : Finset Unit := if g.1.2 = .tc then {()} else ∅
/-- The level of a cell is its kind's. -/
def lv (g : GSem nD τ sig) (_ : Unit) : ℕ := (kdOf g.2).elim 0 lvK

/-- No other thread's cell has one, -/
theorem L_of_ne (g : GSem nD τ sig) (h : g.1.2 ≠ .tc) : L g = ∅ := if_neg h
/-- each of these has, -/
theorem L_tc (c : Dev nD) (sm : SemLoc sig) : L ((c : Thread nD τ), sm) = {()} := if_pos rfl
/-- its kind's. -/
theorem lv_cell (k : Kd) (c : Dev nD) (u : Unit) : lv (cell k c) u = lvK k := by
  show (kdOf (semOf k)).elim _ _ = _; rw [kdOf_semOf]; rfl

/-- Everything owed lies on levels above b. -/
def Above (b : ℕ) (O : CellTallies nD τ sig Unit) : Prop := ∀ g u, 0 < O g u → u ∈ L g ∧ b < lv g u

/-- Nothing lies above any level, -/
theorem Above.zero (b : ℕ) : Above b 0 := fun _ _ h => absurd h (Nat.lt_irrefl 0)
/-- a sum does where both parts do, -/
theorem Above.add {b : ℕ} {O O' : CellTallies nD τ sig Unit} (h : Above b O) (h' : Above b O') : Above b (O + O') := fun g u hg => by
  rcases Nat.eq_zero_or_pos (O g u) with h0 | h0
  · exact h' g u (by simpa [h0] using hg)
  · exact h g u h0
/-- a debt to one cell where its kind's level does, -/
theorem Above.tally {b : ℕ} {k : Kd} (h : b < lvK k) (c : Dev nD) (n : ℕ) : Above b (tallyAt (cell k c) () n) := fun g u hg => by
  rw [tallyAt_apply] at hg
  by_cases he : g = cell k c ∧ u = ()
  · rw [he.1, lv_cell, L_tc]; exact ⟨Finset.mem_singleton_self _, h⟩
  · rw [if_neg he] at hg; exact absurd hg (Nat.lt_irrefl 0)
/-- all debts of a kind likewise, -/
theorem Above.owed {b : ℕ} {k : Kd} (h : b < lvK k) (p : Dev nD) (j : ℕ) : Above b (owed P k p j) := by
  unfold Talk.owed
  exact Finset.sum_induction _ (Above b) (fun _ _ => Above.add) (Above.zero b) (fun i _ => Above.tally h _ _)

omit P in
/-- and what lies above a level lies above a lower one. -/
theorem Above.mono {b b' : ℕ} {O : CellTallies nD τ sig Unit} (h : Above b O) (hb : b' ≤ b) : Above b' O :=
  fun g u hg => ⟨(h g u hg).1, lt_of_le_of_lt hb (h g u hg).2⟩

/-- The levels of all cells. -/
@[irreducible] def lvs : sProp 𝕄 := levAts L lv

/-- They are the levels of the launch. -/
theorem lvs_eq : (lvs : sProp 𝕄) = levAts L lv := by unfold lvs; rfl

instance lvs_persistent : BI.Persistent (lvs : sProp 𝕄) := by unfold lvs; infer_instance

/-- A device may wait on its cell of kind k while all that it owes lies above the kind's level. -/
theorem mayWait (c : Dev nD) (k : Kd) {O : CellTallies nD τ sig Unit} (h : Above (lvK k) O) :
    (lvs : sProp 𝕄) ⊢ MayWait (c : Thread nD τ) (semOf k) () O :=
  (Entails.of_eq lvs_eq).trans <| MayOwe.of_cut (L := L) (lev := lv) (lvK k) (fun p hp => by rw [Finset.mem_singleton.mp hp, L_tc]; exact Finset.mem_singleton_self _)
    (fun g u hg => (h g u hg).1)
    (fun p hp => by rw [Finset.mem_singleton.mp hp]; exact (lv_cell k c ()).le)
    (fun g u hg => (h g u hg).2)

/-! ## The records -/

/-- Every cell's invariant, under the names the launch gave them, and that round 0 of the two entry barriers is open. -/
def records (κ : GSem nD τ sig → ℕ) : sProp 𝕄 :=
  iprop((bigSep Finset.univ fun x : Kd × Dev nD => cellInv ER (rd P) (κ (cell x.1 x.2)) (cell x.1 x.2))
    ∗ (bigSep Finset.univ fun c : Dev nD => iprop(reached ER (cell .bar0 c) 0 ∗ reached ER (cell .bar1 c) 0)) ∗ (lvs : sProp 𝕄))

instance records_persistent (κ : GSem nD τ sig → ℕ) : BI.Persistent (records P κ) := by unfold records; infer_instance

/-- One of a separated family, the others dropped. -/
theorem pick {I : Type} [DecidableEq I] {s : Finset I} {i : I} (h : i ∈ s) (Φ : I → sProp 𝕄) : (bigSep s Φ : sProp 𝕄) ⊢ Φ i :=
  BI.bigSep_elim h

/-- The records hold each cell's invariant, -/
theorem records_inv (κ : GSem nD τ sig → ℕ) (k : Kd) (c : Dev nD) :
    records P κ ⊢ cellInv ER (rd P) (κ (cell k c)) (cell k c) := by
  unfold records
  iintro ⟨H, -⟩
  iapply (pick (Finset.mem_univ ((k, c) : Kd × Dev nD)) (fun x : Kd × Dev nD => (cellInv ER (rd P) (κ (cell x.1 x.2)) (cell x.1 x.2) : sProp 𝕄)))
  iexact H

/-- that the first barrier's cells are open, -/
theorem records_bar0 (κ : GSem nD τ sig → ℕ) (c : Dev nD) : records P κ ⊢ reached ER (cell .bar0 c) 0 := by
  unfold records
  iintro ⟨-, H, -⟩
  ihave H := (pick (Finset.mem_univ c) (fun c : Dev nD => (iprop(reached ER (cell .bar0 c) 0 ∗ reached ER (cell .bar1 c) 0) : sProp 𝕄))) $$ H
  icases H with ⟨H, -⟩; iexact H

/-- and the second's, -/
theorem records_bar1 (κ : GSem nD τ sig → ℕ) (c : Dev nD) : records P κ ⊢ reached ER (cell .bar1 c) 0 := by
  unfold records
  iintro ⟨-, H, -⟩
  ihave H := (pick (Finset.mem_univ c) (fun c : Dev nD => (iprop(reached ER (cell .bar0 c) 0 ∗ reached ER (cell .bar1 c) 0) : sProp 𝕄))) $$ H
  icases H with ⟨-, H⟩; iexact H

/-- and the levels. -/
theorem records_lev (κ : GSem nD τ sig → ℕ) : records P κ ⊢ (lvs : sProp 𝕄) := by
  unfold records
  iintro ⟨-, -, H⟩; iexact H

/-- A cell whose round 0 is over is closed: its counter is back at zero. -/
theorem close (κ : GSem nD τ sig → ℕ) (k : Kd) (c : Dev nD) :
    iprop(records P κ ∗ atPos ER (cell k c) (0 + 1) ∅ 0) ⊢ (|={Set.univ}=> semVal (cell k c) 0 : sProp 𝕄) :=
  (sep_mono_left (records_inv P κ k c)).trans
    (Rounds.cell_close ER (rd P) (Set.mem_univ _) id (duties_later P _))

end Cert.Proof.Talk
-- ==== Proof.Steps.lean ====
/- The loops of the two calls, each kind once: a loop in which a device pays one signal a trip, and a loop in which it
   waits for one payment a trip. -/
module

public import proofs.«01_k».proof.Proof.Talk
public import Idealize.SL.BI.BigOpNat

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ UU ℕ

/-- No loop here needs a variant. -/
abbrev 𝒱₀ : Variants := Variants.none

variable (P : Plan F) (κ : GSem nD τ sig → ℕ)

/-- Device c owes O, whatever it has waited for. -/
def OW (c : Dev nD) (O : CellTallies nD τ sig Unit) : sProp 𝕄 := iprop(∃ W, owes (c : Thread nD τ) O W)

/-- The right to make payment j. -/
abbrev tok (k : Kd) (p : Dev nD) (j : ℕ) : sProp 𝕄 := dutyTok ER (cell k (tgt P k p j)) 0 (p, j)

/-- The rights of device p from payment j on. -/
def toks (k : Kd) (p : Dev nD) (j : ℕ) : sProp 𝕄 := bigSep (Finset.Ico j (num k)) (tok P k p)

/-- From a family over the rest of the trips, this trip's. -/
theorem Ico_step {j n : ℕ} (h : j < n) (Φ : ℕ → sProp 𝕄) :
    (bigSep (Finset.Ico j n) Φ : sProp 𝕄) = iprop(Φ j ∗ bigSep (Finset.Ico (j + 1) n) Φ) := by
  exact bigSep_Ico_succ_bot h Φ

/-- A part of a separated family and the rest make it whole. -/
theorem join_sdiff {I : Type} [DecidableEq I] {S T : Finset I} (h : T ⊆ S) (Φ : I → sProp 𝕄) :
    iprop(bigSep T Φ ∗ bigSep (S \ T) Φ) ⊢ bigSep S Φ :=
  Entails.of_eq (BI.bigSep_sdiff_split h).symm

/-- The credit for q payments. -/
def creds (k : Kd) (c : Dev nD) (q : ℕ) : sProp 𝕄 := cred (tallyAt (cell k c) () (q * amt k))

/-- No credit for no payment. -/
theorem creds_zero (k : Kd) (c : Dev nD) : (creds k c 0 : sProp 𝕄) = iprop(emp) := by
  unfold creds; rw [Nat.zero_mul, tallyAt_zero, cred_zero]

/-- The credit for one payment more. -/
theorem creds_succ (k : Kd) (c : Dev nD) (q : ℕ) :
    (creds k c (q + 1) : sProp 𝕄) = iprop(creds k c q ∗ cred (tallyAt (cell k c) () (amt k))) := by
  unfold creds
  rw [Nat.succ_mul, ← tallyAt_add]
  exact BI.Entails.antisymm (cred_add _ _).1 (cred_add _ _).2

/-! ## Signals -/

/-- One payment by a signal. -/
theorem signal_step {k : Kd} {sem : Sem sig} (hs : semOf k = .reg sem) (ha : amt k = 1) {c dst : Dev nD} {j : ℕ}
    (hj : j < num k) (hd : dst = tgt P k c j) (O : CellTallies nD τ sig Unit) {α : Type}
    {K : PUnit → Prog (TpuEff nD τ sig (Elt F) Λ₀ .tc) α} {Q : α → sProp 𝕄} :
    iprop(records P κ ∗ OW c (owed P k c j + O) ∗ tok P k c j ∗ pay P k (tgt P k c j) c j
        ∗ reached ER (cell k (tgt P k c j)) 0)
      ⊢ iprop((OW c (owed P k c (j + 1) + O) -∗ wp frame (wpE (defs₀ (F := F)) 𝒱₀ c none) Set.univ (K ⟨⟩) Q)
        -∗ wp frame (wpE (defs₀ (F := F)) 𝒱₀ c none) Set.univ (.op (.semSignal (Dev.tc dst) sem 1) K) Q) := by
  subst hd
  have hc : cell k (tgt P k c j) = ((tgt P k c j : Thread nD τ), SemLoc.reg sem) := by rw [← hs]
  have hg := fun W => Rounds.wp_signal (defs := defs₀ (F := F)) 𝒱₀ (ER (F := F)) (rd P) (c : Thread nD τ) none (Γ := .empty) (W := W) (dst := (tgt P k c j : Thread nD τ)) (sem := sem)
    (r := 0) (d := (c, j)) (k' := 1) (k := K) (Q := Q) (κ := κ (cell k (tgt P k c j))) (Es := Set.univ)
    (by rw [← hc, duties_cell]; exact mem_dut_tgt P hj) (by rw [← hc, amount_cell, ha]) () (owed P k c (j + 1) + O) rfl
  rw [← hc] at hg
  simp only [payload_cell] at hg
  unfold OW
  iintro ⟨#Hrec, ⟨%W, HO⟩, Ht, Hp, Hr⟩ Hk
  have ho : owed P k c j + O = owed P k c (j + 1) + O + tallyAt (cell k (tgt P k c j)) () 1 := by
    rw [owed_step P hj, ha, add_right_comm]
  rw [ho]
  iapply (hg W) $$ [HO Ht Hp Hr]
  · isplitr; · iapply (records_inv P κ k (tgt P k c j)); iexact Hrec
    isplitl [HO]; · iexact HO
    isplitl [Ht]; · iexact Ht
    isplitl [Hp]; · iexact Hp
    iexact Hr
  iintro HO
  iapply Hk
  iexists W; iexact HO

/-- What a signalling loop hands over in trip i. -/
abbrev hand (k : Kd) (c : Dev nD) (i : ℕ) : sProp 𝕄 :=
  iprop(pay P k (tgt P k c i) c i ∗ reached ER (cell k (tgt P k c i)) 0)

/-- A loop of one signal a trip pays all of a kind. -/
theorem signal_loop {k : Kd} {sem : Sem sig} (hs : semOf k = .reg sem) (ha : amt k = 1) {c : Dev nD}
    {w : ℕ} {lb ub st : BitVec w} (hok : Scf.OK lb ub st) (ht : Scf.trips lb ub st = num k) {σ : Type} (init x : σ)
    (body : Fin (Scf.trips lb ub st) → σ → Prog (TpuEff nD τ sig (Elt F) Λ₀ .tc) σ)
    (hb : ∀ t acc, ∃ dst : Dev nD, dst = tgt P k c t.val ∧ body t acc = .op (.semSignal (Dev.tc dst) sem 1) fun _ => .ret x)
    (O : CellTallies nD τ sig Unit) {β : Type} {kk : σ → Prog (TpuEff nD τ sig (Elt F) Λ₀ .tc) β} {Q : β → sProp 𝕄} :
    iprop(records P κ ∗ OW c (owed P k c 0 + O) ∗ toks P k c 0 ∗ bigSep (Finset.Ico 0 (num k)) (hand P k c))
      ⊢ iprop((∀ acc, OW c O -∗ wp frame (wpE (defs₀ (F := F)) 𝒱₀ c none) Set.univ (kk acc) Q)
        -∗ wp frame (wpE (defs₀ (F := F)) 𝒱₀ c none) Set.univ (Scf.for lb ub st hok init body >>= kk) Q) := by
  have hloop := Scf.wp_for_bind frame (wpE (defs₀ (F := F)) 𝒱₀ (c : Thread nD τ) none) Set.univ lb ub st hok init body
    (fun j _ => iprop(records P κ ∗ OW c (owed P k c j + O) ∗ toks P k c j ∗ bigSep (Finset.Ico j (num k)) (hand P k c)))
    (by
      intro t acc
      have hlt : t.val < num k := ht ▸ t.isLt
      obtain ⟨dst, hd, hbo⟩ := hb t acc
      rw [hbo]
      unfold toks
      rw [Ico_step hlt, Ico_step hlt]
      iintro ⟨#Hrec, HO, ⟨Ht, Hts⟩, ⟨⟨Hp, Hr⟩, Hps⟩⟩
      iapply (signal_step P κ hs ha hlt hd O) $$ [HO Ht Hp Hr]
      · isplitr; · iexact Hrec
        isplitl [HO]; · iexact HO
        isplitl [Ht]; · iexact Ht
        isplitl [Hp]; · iexact Hp
        iexact Hr
      iintro HO
      rw [wp_ret]
      imodintro
      isplitr; · iexact Hrec
      isplitl [HO]; · iexact HO
      isplitl [Hts]; · iexact Hts
      iexact Hps) (kk := kk) (Q := Q)
  refine hloop.trans ?_
  iintro Hl Hk
  iapply Hl
  iintro %acc H
  rw [ht]
  icases H with ⟨-, HO, -, -⟩
  rw [owed_end, zero_add]
  ispecialize Hk $$ %acc
  iapply Hk; iexact HO

/-! ## Waits -/

/-- Of the payments to its cell device c has waited for w: some have handed over what they hand over; after the last
    all have. -/
def waitSt (k : Kd) (c : Dev nD) (w : ℕ) : sProp 𝕄 :=
  if w < num k then iprop(∃ T : Finset Duty, ⌜T ⊆ dut P k c⌝ ∗ atPos ER (cell k c) 0 T (w * amt k) ∗ bigSep T fun x => pay P k c x.1 x.2)
  else iprop(atPos ER (cell k c) (0 + 1) ∅ 0 ∗ bigSep (dut P k c) fun x => pay P k c x.1 x.2)

/-- Before the first wait nothing is taken. -/
theorem waitSt_zero (k : Kd) (c : Dev nD) : (atPos ER (cell k c) 0 ∅ 0 : sProp 𝕄) ⊢ waitSt P k c 0 := by
  unfold waitSt
  rw [if_pos (num_pos k)]
  iintro H
  iexists ∅
  isplitr; · ipureintro; exact Finset.empty_subset _
  rw [bigSep_empty, Nat.zero_mul]
  isplitl [H]; · iexact H
  iempintro

/-- After the last wait all the payments are taken. -/
theorem waitSt_end (k : Kd) (c : Dev nD) :
    waitSt P k c (num k) = iprop(atPos ER (cell k c) (0 + 1) ∅ 0 ∗ bigSep (dut P k c) fun x => pay P k c x.1 x.2) := by
  unfold waitSt
  rw [if_neg (lt_irrefl _)]

/-- Waiting for one payment. -/
theorem wait_step {k : Kd} {c : Dev nD} {w : ℕ} (hw : w < num k) {O : CellTallies nD τ sig Unit} (hO : Above (lvK k) O)
    {e : TpuEff nD τ sig (Elt F) Λ₀ .tc PUnit}
    (he : ∀ K : PUnit → sProp 𝕄, wpE (defs₀ (F := F)) 𝒱₀ (c : Thread nD τ) none Set.univ e K
      = waitSpec (c : Thread nD τ) Set.univ (semOf k) (amt k) K)
    {α : Type} {K : PUnit → Prog (TpuEff nD τ sig (Elt F) Λ₀ .tc) α} {Q : α → sProp 𝕄} :
    iprop(records P κ ∗ OW c O ∗ waitSt P k c w ∗ cred (tallyAt (cell k c) () (amt k)))
      ⊢ iprop((OW c O ∗ waitSt P k c (w + 1) -∗ wp frame (wpE (defs₀ (F := F)) 𝒱₀ c none) Set.univ (K ⟨⟩) Q)
        -∗ wp frame (wpE (defs₀ (F := F)) 𝒱₀ c none) Set.univ (.op e K) Q) := by
  have hm : records P κ ⊢ MayWait (c : Thread nD τ) (semOf k) () O := by
    iintro H
    iapply (mayWait (F := F) c k hO)
    iapply (records_lev (F := F) P κ)
    iexact H
  unfold OW waitSt
  rw [if_pos hw]
  iintro ⟨#Hrec, ⟨%W, HO⟩, ⟨%T, %hT, Hat, HT⟩, Hc⟩ Hk
  by_cases hl : w + 1 < num k
  · rw [if_pos hl]
    iapply (Rounds.wp_wait (defs := defs₀ (F := F)) 𝒱₀ ER (rd P) (c : Thread nD τ) none (κ := κ (cell k c)) he (Set.mem_univ _)
      (cr := Finsupp.single () (amt k)) (O := O) (W := W) {(semOf k, ())} (R := 0) (m := w * amt k) (T := T)
      (by rw [Util.total_single]) (image_single_subset _ () _)) $$ [Hc HO Hat]
    · isplitr; · iapply (records_inv P κ k c); iexact Hrec
      isplitl [Hc]; · iexact Hc
      isplitl [HO]; · iexact HO
      isplitr; · iapply hm; iexact Hrec
      iexact Hat
    iintro %S ⟨%hS, HO, Hat, HS⟩
    iapply Hk
    isplitl [HO]; · iexists _; iexact HO
    iexists S
    rw [duties_cell] at hS
    isplitr; · ipureintro; exact hS.2.1
    rw [Nat.succ_mul]
    isplitl [Hat]; · iexact Hat
    iapply (join_sdiff hS.1 (fun x => pay P k c x.1 x.2))
    simp only [payload_cell]
    isplitl [HT]; · iexact HT
    iexact HS
  · have he' : w + 1 = num k := by omega
    rw [if_neg hl]
    iapply (Rounds.wp_wait_rest_token (defs := defs₀ (F := F)) 𝒱₀ ER (rd P) (c : Thread nD τ) none (κ := κ (cell k c)) he (Set.mem_univ _)
      () (O := O) (W := W) (R := 0) (m := w * amt k) (T := T)
      (by rw [expect_cell, ← he', Nat.succ_mul])) $$ [Hc HO Hat]
    · isplitr; · iapply (records_inv P κ k c); iexact Hrec
      isplitl [Hc]; · iexact Hc
      isplitl [HO]; · iexact HO
      isplitr; · iapply hm; iexact Hrec
      iexact Hat
    iintro ⟨HO, Hat, -, HS⟩
    iapply Hk
    isplitl [HO]; · iexists _; iexact HO
    isplitl [Hat]; · iexact Hat
    iapply (join_sdiff hT (fun x => pay P k c x.1 x.2))
    rw [duties_cell]
    simp only [payload_cell]
    isplitl [HT]; · iexact HT
    iexact HS

/-- Waiting for all payments at once. -/
theorem wait_all {k : Kd} {c : Dev nD} {O : CellTallies nD τ sig Unit} (hO : Above (lvK k) O)
    {e : TpuEff nD τ sig (Elt F) Λ₀ .tc PUnit}
    (he : ∀ K : PUnit → sProp 𝕄, wpE (defs₀ (F := F)) 𝒱₀ (c : Thread nD τ) none Set.univ e K
      = waitSpec (c : Thread nD τ) Set.univ (semOf k) (num k * amt k) K)
    {α : Type} {K : PUnit → Prog (TpuEff nD τ sig (Elt F) Λ₀ .tc) α} {Q : α → sProp 𝕄} :
    iprop(records P κ ∗ OW c O ∗ atPos ER (cell k c) 0 ∅ 0 ∗ creds k c (num k))
      ⊢ iprop((OW c O ∗ atPos ER (cell k c) (0 + 1) ∅ 0 ∗ (bigSep (dut P k c) fun x => pay P k c x.1 x.2)
          -∗ wp frame (wpE (defs₀ (F := F)) 𝒱₀ c none) Set.univ (K ⟨⟩) Q)
        -∗ wp frame (wpE (defs₀ (F := F)) 𝒱₀ c none) Set.univ (.op e K) Q) := by
  have hm : records P κ ⊢ MayWait (c : Thread nD τ) (semOf k) () O := by
    iintro H
    iapply (mayWait (F := F) c k hO)
    iapply (records_lev (F := F) P κ)
    iexact H
  unfold OW creds
  iintro ⟨#Hrec, ⟨%W, HO⟩, Hat, Hc⟩ Hk
  iapply (Rounds.wp_wait_rest_token (defs := defs₀ (F := F)) 𝒱₀ ER (rd P) (c : Thread nD τ) none (κ := κ (cell k c)) he (Set.mem_univ _)
    () (O := O) (W := W) (R := 0) (m := 0) (T := ∅)
    (by rw [expect_cell, Nat.zero_add])) $$ [Hc HO Hat]
  · isplitr; · iapply (records_inv P κ k c); iexact Hrec
    isplitl [Hc]; · iexact Hc
    isplitl [HO]; · iexact HO
    isplitr; · iapply hm; iexact Hrec
    iexact Hat
  iintro ⟨HO, Hat, -, HS⟩
  iapply Hk
  isplitl [HO]; · iexists _; iexact HO
  isplitl [Hat]; · iexact Hat
  rw [Finset.sdiff_empty, duties_cell]
  simp only [payload_cell]
  iexact HS

/-- A loop of one wait a trip, from the wait numbered w₀ to the last. -/
theorem wait_loop {k : Kd} {c : Dev nD} (w₀ : ℕ)
    {w : ℕ} {lb ub st : BitVec w} (hok : Scf.OK lb ub st) (ht : w₀ + Scf.trips lb ub st = num k) {σ : Type} (init x : σ)
    (body : Fin (Scf.trips lb ub st) → σ → Prog (TpuEff nD τ sig (Elt F) Λ₀ .tc) σ)
    (hb : ∀ t acc, ∃ e : TpuEff nD τ sig (Elt F) Λ₀ .tc PUnit, (∀ K : PUnit → sProp 𝕄, wpE (defs₀ (F := F)) 𝒱₀ (c : Thread nD τ) none Set.univ e K
      = waitSpec (c : Thread nD τ) Set.univ (semOf k) (amt k) K) ∧ body t acc = .op e fun _ => .ret x)
    {O : CellTallies nD τ sig Unit} (hO : Above (lvK k) O) {β : Type}
    {kk : σ → Prog (TpuEff nD τ sig (Elt F) Λ₀ .tc) β} {Q : β → sProp 𝕄} :
    iprop(records P κ ∗ OW c O ∗ waitSt P k c w₀ ∗ creds k c (Scf.trips lb ub st))
      ⊢ iprop((∀ acc, OW c O ∗ atPos ER (cell k c) (0 + 1) ∅ 0 ∗ (bigSep (dut P k c) fun x => pay P k c x.1 x.2)
          -∗ wp frame (wpE (defs₀ (F := F)) 𝒱₀ c none) Set.univ (kk acc) Q)
        -∗ wp frame (wpE (defs₀ (F := F)) 𝒱₀ c none) Set.univ (Scf.for lb ub st hok init body >>= kk) Q) := by
  have hloop := Scf.wp_for_bind frame (wpE (defs₀ (F := F)) 𝒱₀ (c : Thread nD τ) none) Set.univ lb ub st hok init body
    (fun j _ => iprop(records P κ ∗ OW c O ∗ waitSt P k c (w₀ + j) ∗ creds k c (Scf.trips lb ub st - j)))
    (by
      intro t acc
      have hlt : w₀ + t.val < num k := by have := t.isLt; omega
      obtain ⟨e, he, hbo⟩ := hb t acc
      rw [hbo, show Scf.trips lb ub st - t.val = (Scf.trips lb ub st - (t.val + 1)) + 1 from by have := t.isLt; omega, creds_succ]
      iintro ⟨#Hrec, HO, Hw, ⟨Hcs, Hc⟩⟩
      iapply (wait_step P κ hlt hO he) $$ [HO Hw Hc]
      · isplitr; · iexact Hrec
        isplitl [HO]; · iexact HO
        isplitl [Hw]; · iexact Hw
        iexact Hc
      iintro ⟨HO, Hw⟩
      rw [wp_ret]
      imodintro
      isplitr; · iexact Hrec
      isplitl [HO]; · iexact HO
      isplitl [Hw]; · iexact Hw
      iexact Hcs) (kk := kk) (Q := Q)
  refine hloop.trans ?_
  iintro Hl Hk
  iapply Hl
  iintro %acc H
  icases H with ⟨-, HO, Hw, -⟩
  ispecialize Hk $$ %acc
  iapply Hk
  isplitl [HO]; · iexact HO
  iapply (Entails.of_eq ((congrArg (waitSt P k c) ht).trans (waitSt_end P k c)))
  iexact Hw

end Cert.Proof.Talk
-- ==== Proof.Sends.lean ====
/- Sending: one remote copy that pays a send cell of the sender and a receive cell of its target; and the rearrangements
   of separated families that both calls use (payments by trip, by device, by part of a buffer). -/
module

public import proofs.«01_k».proof.Proof.Steps

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type}

local notation "𝕄" => MT nD τ sig Unit (Elt F) ℕ UU ℕ

/-! ## Families -/

/-- A family over the values of a function is the family over its arguments. -/
theorem over {I J : Type} [DecidableEq I] [DecidableEq J] {s : Finset I} {t : Finset J} (f : I → J)
    (hinj : Set.InjOn f s) (him : s.image f = t) (Φ : J → sProp 𝕄) :
    (bigSep t Φ : sProp 𝕄) = bigSep s fun i => Φ (f i) := by
  rw [← him]; exact bigSep_image_of_injOn hinj Φ

/-- All devices, counted from any one of them on. -/
theorem devs_from (c : Dev nD) (Φ : Dev nD → sProp 𝕄) :
    (bigSep Finset.univ Φ : sProp 𝕄) = bigSep (Finset.Ico 0 32) fun n => Φ (peer c n) := by
  refine over (peer c) ?_ ?_ Φ
  · intro a ha b hb h
    have h1 := congrArg Fin.val h
    have hc : c.val < 32 := c.isLt
    simp only [Finset.coe_Ico, Set.mem_Ico] at ha hb
    simp only [peer] at h1
    omega
  · ext d
    simp only [Finset.mem_image, Finset.mem_Ico, Finset.mem_univ, iff_true]
    have hc : c.val < 32 := c.isLt
    have hd : d.val < 32 := d.isLt
    refine ⟨(d.val + 32 - c.val) % 32, ⟨Nat.zero_le _, Nat.mod_lt _ (by decide)⟩, ?_⟩
    apply Fin.ext; simp only [peer]; omega

/-- The kinds of cell that each device but the owner pays once: the barriers. -/
def IsBar (k : Kd) : Prop := k = .bar0 ∨ k = .end0 ∨ k = .bar1 ∨ k = .end1

variable (P : Plan F)

/-- A device pays 31 times to the cells of a barrier. -/
theorem IsBar.num_eq {k : Kd} (h : IsBar k) : num k = 31 := by
  rcases h with h | h | h | h <;> subst h <;> rfl
/-- A barrier is not the second call's arrivals. -/
theorem IsBar.ne {k : Kd} (h : IsBar k) : k ≠ .recv1 := by
  rcases h with h | h | h | h <;> subst h <;> decide
/-- A barrier's trip j pays the device j + 1 further on, -/
theorem IsBar.tgt_eq {k : Kd} (h : IsBar k) (p : Dev nD) (j : ℕ) : tgt P k p j = peer p (j + 1) := by
  rcases h with h | h | h | h <;> subst h <;> rfl
/-- so the payer is j + 1 back. -/
theorem IsBar.src_eq {k : Kd} (h : IsBar k) (p : Dev nD) (j : ℕ) : src k p j = back p (j + 1) := by
  rcases h with h | h | h | h <;> subst h <;> rfl

/-- The payers of a barrier cell are the other devices. -/
theorem dut_bar {k : Kd} (h : IsBar k) (c : Dev nD) (Φ : Dev nD → sProp 𝕄) :
    (bigSep (dut P k c) fun x => Φ x.1 : sProp 𝕄) = bigSep (Finset.Ico 1 32) fun n => Φ (peer c n) := by
  rw [dut_eq P h.ne, BI.bigSep_map, h.num_eq]
  have e : ∀ j, j < 31 → back c (j + 1) = peer c (31 - j) := fun j hj => by
    apply Fin.ext; have hc : c.val < 32 := c.isLt; simp only [back, peer]; omega
  rw [over (s := Finset.range 31) (t := Finset.Ico 1 32) (fun j => 31 - j) ?_ ?_ (fun n => Φ (peer c n))]
  · exact bigSep_congr fun j hj => by
      show Φ (src k c j) = _
      rw [h.src_eq, e j (Finset.mem_range.1 hj)]
  · intro a ha b hb hab
    simp only [Finset.coe_range, Set.mem_Iio] at ha hb
    simp only at hab
    omega
  · ext n
    simp only [Finset.mem_image, Finset.mem_range, Finset.mem_Ico]
    constructor
    · rintro ⟨a, ha, rfl⟩; omega
    · rintro ⟨h1, h2⟩; exact ⟨31 - n, by omega, by omega⟩

/-- The payers of the first call's receive cell are all devices. -/
theorem dut_recv0 (c : Dev nD) (Φ : Dev nD → sProp 𝕄) :
    (bigSep (dut P .recv0 c) fun x => Φ x.1 : sProp 𝕄) = bigSep Finset.univ Φ := by
  rw [dut_eq P (by decide), BI.bigSep_map]
  symm
  refine over (fun j => back c j) ?_ ?_ Φ
  · intro a ha b hb h
    have h1 := congrArg Fin.val h
    have hc : c.val < 32 := c.isLt
    simp only [Finset.coe_range, Set.mem_Iio, num] at ha hb
    simp only [back] at h1
    omega
  · ext d
    simp only [Finset.mem_image, Finset.mem_range, num, Finset.mem_univ, iff_true]
    have hc : c.val < 32 := c.isLt
    have hd : d.val < 32 := d.isLt
    refine ⟨(c.val + 32 - d.val) % 32, Nat.mod_lt _ (by decide), ?_⟩
    apply Fin.ext; simp only [back]; omega

/-- The payments to a cell by trip, where the payer is the owner. -/
theorem dut_own {k : Kd} (hk : k = .copy ∨ k = .send0 ∨ k = .send1) (c : Dev nD) (Φ : Duty → sProp 𝕄) :
    (bigSep (dut P k c) Φ : sProp 𝕄) = bigSep (Finset.Ico 0 (num k)) fun j => Φ (c, j) := by
  rw [dut_eq P (by rcases hk with h | h | h <;> subst h <;> decide), BI.bigSep_map, Finset.range_eq_Ico]
  rcases hk with h | h | h <;> subst h <;> rfl

/-! ## Parts of buffers -/

/-- The parts of two devices share no entry, -/
theorem slots_disjoint (s t : Dev nD) (h : s ≠ t) : Disjoint (slotSet s) (slotSet t) :=
  Finset.disjoint_left.2 fun e he he' => h (Fin.ext (by rw [mem_slotSet] at he he'; omega))

/-- and all parts are the whole. -/
theorem slots_cover : (Finset.univ : Finset (Dev nD)).biUnion slotSet = Finset.univ := by
  ext e
  simp only [Finset.mem_biUnion, Finset.mem_univ, true_and, iff_true]
  have h : (e 0).val < 4096 := (e 0).isLt
  exact ⟨⟨(e 0).val / 128, by show _ < 32; omega⟩, mem_slotSet.2 rfl⟩

/-- The gathered counts, whole, are their 32 parts. -/
theorem slots_split (c : Dev nD) (f : S4096.Idx → Elt F .i32) :
    ((c : Thread nD τ).loc main_v5_1 ↦{fullShare} f : sProp 𝕄) = bigSep Finset.univ fun s => slotPt c s f := by
  have h := pointsTo_biUnion (Ix := Unit) (Name := ℕ) (U := UU) (Lvl := ℕ) (nD := nD) (τ := τ) (sig := sig) (Val := Elt F)
    (ℓ := (c : Thread nD τ).loc main_v5_1) (q := fullShare) (f := f) Finset.univ slotSet (fun s _ t _ h => slots_disjoint s t h)
  rw [slots_cover] at h
  exact h

/-- Two rows share no entry, -/
theorem rows_disjoint (p q : ℕ) (h : p ≠ q) : Disjoint (rowSet p) (rowSet q) :=
  Finset.disjoint_left.2 fun e he he' => h (by rw [mem_rowSet] at he he'; omega)

/-- and all rows are the whole. -/
theorem rows_cover : (Finset.Ico 0 512).biUnion rowSet = Finset.univ := by
  ext e
  simp only [Finset.mem_biUnion, Finset.mem_univ, iff_true]
  have h : (e 0).val < 512 := (e 0).isLt
  exact ⟨(e 0).val, Finset.mem_Ico.2 ⟨Nat.zero_le _, h⟩, mem_rowSet.2 rfl⟩

/-- What a device sends, whole, is its 512 rows. -/
theorem src_split (c : Dev nD) (f : S512x1x256.Idx → Elt F .bf16) :
    ((c : Thread nD τ).loc main_v20 ↦{fullShare} f : sProp 𝕄) = bigSep (Finset.Ico 0 512) fun p => srcRow c p f := by
  have h := pointsTo_biUnion (Ix := Unit) (Name := ℕ) (U := UU) (Lvl := ℕ) (nD := nD) (τ := τ) (sig := sig) (Val := Elt F)
    (ℓ := (c : Thread nD τ).loc main_v20) (q := fullShare) (f := f) (Finset.Ico 0 512) rowSet (fun s _ t _ h => rows_disjoint s t h)
  rw [rows_cover] at h
  exact h

/-- What a device receives, whole, is its 512 rows. -/
theorem dst_split (c : Dev nD) (f : S512x1x256.Idx → Elt F .bf16) :
    ((c : Thread nD τ).loc main_v21 ↦{fullShare} f : sProp 𝕄) = bigSep (Finset.Ico 0 512) fun p => dstRow c p f := by
  have h := pointsTo_biUnion (Ix := Unit) (Name := ℕ) (U := UU) (Lvl := ℕ) (nD := nD) (τ := τ) (sig := sig) (Val := Elt F)
    (ℓ := (c : Thread nD τ).loc main_v21) (q := fullShare) (f := f) (Finset.Ico 0 512) rowSet (fun s _ t _ h => rows_disjoint s t h)
  rw [rows_cover] at h
  exact h

/-- The rows of a device by the payments that fill them. -/
theorem rows_by_payment (c : Dev nD) (Φ : ℕ → sProp 𝕄) :
    (bigSep (Finset.Ico 0 512) Φ : sProp 𝕄) = bigSep (dut P .recv1 c) fun x => Φ (P.pos x.1 x.2) := by
  have hinj : Set.InjOn (fun x : Duty => P.pos x.1 x.2) (dut P .recv1 c) := by
    rintro ⟨p, j⟩ hx ⟨p', j'⟩ hy h
    have hx := (mem_dut P).1 hx
    have hy := (mem_dut P).1 hy
    obtain ⟨h1, h2⟩ := P.pos_inj p j p' j' hx.1 hy.1 (hx.2.trans hy.2.symm) h
    rw [h1, h2]
  refine over (fun x : Duty => P.pos x.1 x.2) hinj ?_ Φ
  refine Finset.eq_of_subset_of_card_le ?_ ?_
  · intro n hn
    obtain ⟨⟨p, j⟩, hx, rfl⟩ := Finset.mem_image.1 hn
    exact Finset.mem_Ico.2 ⟨Nat.zero_le _, P.pos_lt p j ((mem_dut P).1 hx).1⟩
  · rw [Finset.card_image_of_injOn hinj, card_dut, Nat.card_Ico]; exact le_of_eq rfl

/-- Those payments device by device. -/
theorem dut_recv1 (c : Dev nD) (Φ : Dev nD → ℕ → sProp 𝕄) :
    (bigSep (dut P .recv1 c) fun x => Φ x.1 x.2 : sProp 𝕄)
      = bigSep Finset.univ fun p => bigSep (rowsTo P p c) fun i => Φ p i := by
  have h : dut P .recv1 c = ((Finset.univ : Finset (Dev nD)).sigma (fun p => rowsTo P p c)).map
      ⟨fun x => ((x.1, x.2) : Duty), fun x y h => by
        obtain ⟨a, b⟩ := x; obtain ⟨a', b'⟩ := y
        have h1 := congrArg Prod.fst h
        have h2 := congrArg Prod.snd h
        simp only at h1 h2
        subst h1; subst h2; rfl⟩ := by
    ext ⟨p, j⟩
    rw [mem_dut, Finset.mem_map]
    constructor
    · intro hx
      exact ⟨⟨p, j⟩, Finset.mem_sigma.2 ⟨Finset.mem_univ _, Finset.mem_filter.2 ⟨Finset.mem_range.2 hx.1, hx.2⟩⟩, rfl⟩
    · rintro ⟨⟨p', j'⟩, hx, he⟩
      have h1 : p' = p := congrArg Prod.fst he
      have h2 : j' = j := congrArg Prod.snd he
      subst h1; subst h2
      have hx := Finset.mem_filter.1 (Finset.mem_sigma.1 hx).2
      exact ⟨Finset.mem_range.1 hx.1, hx.2⟩
  rw [h, BI.bigSep_map]
  generalize (Finset.univ : Finset (Dev nD)) = S
  induction S using Finset.induction_on with
  | empty => rw [bigSep_empty]; exact bigSep_empty
  | insert a S ha ih =>
    rw [bigSep_insert ha, ← ih]
    have hs : (insert a S).sigma (fun p => rowsTo P p c)
        = ((rowsTo P a c).map ⟨fun i => (⟨a, i⟩ : (_ : Dev nD) × ℕ), fun x y h => by cases h; rfl⟩) ∪ S.sigma (fun p => rowsTo P p c) := by
      ext ⟨p, j⟩
      simp only [Finset.mem_sigma, Finset.mem_insert, Finset.mem_union, Finset.mem_map, Function.Embedding.coeFn_mk]
      constructor
      · rintro ⟨h1 | h1, h2⟩
        · subst h1; exact Or.inl ⟨j, h2, rfl⟩
        · exact Or.inr ⟨h1, h2⟩
      · rintro (⟨i, h1, h2⟩ | h1)
        · cases h2; exact ⟨Or.inl rfl, h1⟩
        · exact ⟨Or.inr h1.1, h1.2⟩
    rw [hs, BI.bigSep_union, BI.bigSep_map]
    · rfl
    · rw [Finset.disjoint_left]
      rintro ⟨p, j⟩ h1 h2
      obtain ⟨i, -, h3⟩ := Finset.mem_map.1 h1
      cases h3
      exact ha (Finset.mem_sigma.1 h2).1

variable [FloatOps F] (κ : GSem nD τ sig → ℕ)

/-! ## One remote copy -/

/-- A remote copy pays the sender's send cell with what it read and the target's receive cell with what it wrote. -/
theorem send_step {ks kr : Kd} {sS sR : DmaSem sig} (hs : semOf ks = .dma sS) (hr : semOf kr = .dma sR) {c dst : Dev nD} {j : ℕ}
    (hjs : j < num ks) (hjr : j < num kr) (hts : tgt P ks c j = c) (hd : dst = tgt P kr c j)
    {sp sp' : Space} {s : Shape} {e : EltTy} {srcM : Memref sig .tc sp s e} {dstM : Memref sig .tc sp' s e}
    {hsc : dstM.view.ref.isScScratch = false} {hsrc : srcM.view.WordExact} {hdst : dstM.view.WordExact}
    {hsem : DmaTarget.Typed (nD := nD) (τ := τ) sp (.dma sR) (.remote (Dev.tc dst) dstM (.dma sS) hsc)}
    (q : PosShare TreeShare) (fs : Buf (Elt F) (srcM.view.loc (c : Thread nD τ))) (fd : Buf (Elt F) (dstM.view.loc (dst : Thread nD τ)))
    (hN : dstM.view.dmaCredit = amt kr) (hks : amt ks = amt kr)
    (hpay₁ : (srcM.view.loc (c : Thread nD τ) ↦[srcM.view.set]{q} fs : sProp 𝕄) ⊢ pay P ks c c j)
    (hpay₂ : (dstM.view.loc (dst : Thread nD τ) ↦[dstM.view.set]{fullShare} (dstM.view.write (Elt F) fd (srcM.view.read (Elt F) fs) Finset.univ) : sProp 𝕄)
      ⊢ pay P kr dst c j)
    (O : CellTallies nD τ sig Unit) {α : Type}
    {K : PUnit → Prog (TpuEff nD τ sig (Elt F) Λ₀ .tc) α} {Q : α → sProp 𝕄} :
    iprop(records P κ ∗ OW c (owed P kr c j + O) ∗ (srcM.view.loc (c : Thread nD τ) ↦[srcM.view.set]{q} fs)
        ∗ (dstM.view.loc (dst : Thread nD τ) ↦[dstM.view.set]{fullShare} fd)
        ∗ tok P ks c j ∗ reached ER (cell ks c) 0 ∗ tok P kr c j ∗ reached ER (cell kr dst) 0)
      ⊢ iprop((cred (tallyAt (cell ks c) () (amt ks)) ∗ OW c (owed P kr c (j + 1) + O)
          -∗ wp frame (wpE (defs₀ (F := F)) 𝒱₀ c none) Set.univ (K ⟨⟩) Q)
        -∗ wp frame (wpE (defs₀ (F := F)) 𝒱₀ c none) Set.univ
          (.op (.enqueueDma srcM (.remote (Dev.tc dst) dstM (.dma sS) hsc) (.dma sR) hsrc hdst hsem) K) Q) := by
  have hcs : cell ks c = ((c : Thread nD τ), SemLoc.dma sS) := by rw [← hs]
  have hcr : cell kr dst = ((dst : Thread nD τ), SemLoc.dma sR) := by rw [← hr]
  have hg := fun W => Rounds.wp_send_pointsTo (defs := defs₀ (F := F)) 𝒱₀ (ER (F := F)) (rd P) (c : Thread nD τ) none (Γ := .empty) (W := W)
    (c' := (dst : Thread nD τ)) (src := srcM) (dst := dstM) (hsc := hsc) (hsrc := hsrc) (hdst := hdst) (sS := .dma sS) (sem := .dma sR) (hsem := hsem)
    (q := q) (fs := fs) (fd := fd) (r₁ := 0) (r₂ := 0) (d₁ := (c, j)) (d₂ := (c, j)) (k := K) (Q := Q)
    (κ₁ := κ (cell ks c)) (κ₂ := κ (cell kr dst)) (Es := Set.univ)
    (by rw [← hcs, duties_cell]; exact (mem_dut P).2 ⟨hjs, hts⟩)
    (by rw [← hcr, duties_cell]; exact (mem_dut P).2 ⟨hjr, hd.symm⟩) () () (amt kr) hN
    (by rw [← hcs, amount_cell, hks]) (by rw [← hcr, amount_cell]) (O₀ := owed P kr c j + O) (owed P kr c (j + 1) + O)
    (by rw [← hcr, owed_step P hjr, ← hd, add_right_comm])
    (by rw [← hcs, payload_cell]; exact hpay₁) (by rw [← hcr, payload_cell]; exact hpay₂)
  rw [← hcs, ← hcr] at hg
  unfold OW tok
  rw [hts, ← hd, hks]
  iintro ⟨#Hrec, ⟨%W, HO⟩, Hs, Hd, Ht, Hr, Ht', Hr'⟩ Hk
  iapply (hg W) $$ [HO Hs Hd Ht Hr Ht' Hr']
  · isplitr; · iapply (records_inv P κ ks c); iexact Hrec
    isplitr; · iapply (records_inv P κ kr dst); iexact Hrec
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

end Cert.Proof.Talk
-- ==== Proof.Body0.lean ====
/- The first call's body, run on any one device: the entry barrier, the counts and their copy, the 32 sends of the counts,
   the waits for them and for what the others send, and the closing barrier. -/
module

public import proofs.«01_k».proof.Proof.Sends
public import proofs.«01_k».proof.Proof.Gen.KernelIdeal.Skeleton

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Plan F) (κ : GSem nD τ sig → ℕ)

/-! ## The slices -/

/-- The slice of the gathered counts that a device sends into. -/
theorem slot_set (c : Dev nD) {off : Fin 1 → ℕ} (h : off = ![128 * c.val]) (inb : ∀ a, off a + S128.size a ≤ S4096.size a) :
    ((Memref.whole main_v5_1).slice (Rect.unit (s := S4096) off S128.size inb) (fun _ => rfl)).view.set = slotSet c := by
  subst h
  refine (View.set_slice_whole main_v5_1 _).trans ?_
  ext e
  rw [Rect.mem_set_unit, mem_slotSet]
  have h : (∀ a : Fin 1, (![128 * c.val] : Fin 1 → ℕ) a ≤ (e a).val ∧ (e a).val < (![128 * c.val] : Fin 1 → ℕ) a + S128.size a)
      ↔ 128 * c.val ≤ (e 0).val ∧ (e 0).val < 128 * c.val + 128 := Fin.forall_fin_one
  refine h.trans ?_
  omega

/-- What a device's slice of the gathered counts holds when its counts have been written there. -/
theorem slot_write (c : Dev nD) {off : Fin 1 → ℕ} (h : off = ![128 * c.val]) (inb : ∀ a, off a + S128.size a ≤ S4096.size a)
    (hgat : ∀ (e : S4096.Idx) (x : S128.Idx), (e 0).val % 128 = (x 0).val → P.gat e = P.cnt x)
    (f : S4096.Idx → Elt F .i32) (e : S4096.Idx) (he : e ∈ slotSet c) :
    ((Memref.whole main_v5_1).slice (Rect.unit (s := S4096) off S128.size inb) (fun _ => rfl)).view.write (Elt F) f
      ((Memref.whole main_v5_0).view.read (Elt F) P.cnt) Finset.univ e = P.gat e := by
  rw [← slot_set c h inb] at he
  obtain ⟨x, -, rfl⟩ := Finset.mem_map.1 he
  rw [View.write_emb_of_mem _ _ (Finset.mem_univ x)]
  refine ((hgat _ x ?_)).symm
  subst h
  show (128 * c.val + 1 * (x 0).val) % 128 = (x 0).val
  have hx : (x 0).val < 128 := (x 0).isLt
  omega

/-! ## The loop of sends -/

/-- The part of device d's gathered counts that device c is to fill, with what it may hold and that d's receive cell is open. -/
abbrev door (c d : Dev nD) : sProp 𝕄 := iprop((∃ f, slotPt d c f) ∗ reached ER (cell .recv0 d) 0)

/-- One of the sends of the counts. -/
theorem send0_step {c dst : Dev nD} {j : ℕ} (hj : j < 32) (hd : dst = peer c j)
    (hgat : ∀ (e : S4096.Idx) (x : S128.Idx), (e 0).val % 128 = (x 0).val → P.gat e = P.cnt x)
    {off : Fin 1 → ℕ} (h : off = ![128 * c.val]) (inb : ∀ a, off a + S128.size a ≤ S4096.size a)
    {hsc : ((Memref.whole main_v5_1).slice (Rect.unit (s := S4096) off S128.size inb) (fun _ => rfl)).view.ref.isScScratch = false}
    {hsrc : (Memref.whole main_v5_0).view.WordExact} {hdst : ((Memref.whole main_v5_1).slice (Rect.unit (s := S4096) off S128.size inb) (fun _ => rfl)).view.WordExact}
    {hsem : DmaTarget.Typed (nD := nD) (τ := τ) .hbm (.dma ⟨3, by decide⟩) (.remote (Dev.tc dst) ((Memref.whole main_v5_1).slice (Rect.unit (s := S4096) off S128.size inb) (fun _ => rfl)) (.dma ⟨2, by decide⟩) hsc)}
    (O : CellTallies nD τ sig Unit) {α : Type}
    {K : PUnit → Prog (TpuEff nD τ sig (Elt F) Λ₀ .tc) α} {Q : α → sProp 𝕄} :
    iprop(records P κ ∗ reached ER (cell .send0 c) 0 ∗ OW c (owed P .recv0 c j + O) ∗ tok P .send0 c j ∗ tok P .recv0 c j
        ∗ pay P .send0 c c j ∗ door c (peer c j))
      ⊢ iprop((cred (tallyAt (cell .send0 c) () (amt .send0)) ∗ OW c (owed P .recv0 c (j + 1) + O)
          -∗ wp frame (wpE (defs₀ (F := F)) 𝒱₀ c none) Set.univ (K ⟨⟩) Q)
        -∗ wp frame (wpE (defs₀ (F := F)) 𝒱₀ c none) Set.univ
          (.op (.enqueueDma (Memref.whole main_v5_0) (.remote (Dev.tc dst) ((Memref.whole main_v5_1).slice (Rect.unit (s := S4096) off S128.size inb) (fun _ => rfl))
            (.dma ⟨2, by decide⟩) hsc) (.dma ⟨3, by decide⟩) hsrc hdst hsem) K) Q) := by
  subst hd
  have hw : ∀ fd : S4096.Idx → Elt F .i32, ((((Memref.whole main_v5_1).slice (Rect.unit (s := S4096) off S128.size inb) (fun _ => rfl)).view.loc (peer c j : Thread nD τ)
      ↦[((Memref.whole main_v5_1).slice (Rect.unit (s := S4096) off S128.size inb) (fun _ => rfl)).view.set]{fullShare}
        (((Memref.whole main_v5_1).slice (Rect.unit (s := S4096) off S128.size inb) (fun _ => rfl)).view.write (Elt F) fd ((Memref.whole main_v5_0).view.read (Elt F) P.cnt) Finset.univ)) : sProp 𝕄)
      ⊢ pay P .recv0 (peer c j) c j := fun fd => by
    rw [slot_set c h]
    exact Entails.of_eq (pointsTo_congr fun e he => slot_write P c h _ hgat _ e he)
  have hN : ((Memref.whole main_v5_1).slice (Rect.unit (s := S4096) off S128.size inb) (fun _ => rfl)).view.dmaCredit = amt .recv0 := rfl
  have hv : ((((Memref.whole main_v5_0).view.loc (c : Thread nD τ) ↦[(Memref.whole main_v5_0).view.set]{ShareLeaves.leaf 5 fullShare ⟨j % 32, Nat.mod_lt _ (by decide)⟩} P.cnt)) : sProp 𝕄)
      = pay P .send0 c c j := by
    rw [show (Memref.whole main_v5_0).view.set = Finset.univ from View.set_whole _]; rfl
  have hs := fun fd => send_step P κ (ks := .send0) (kr := .recv0) (sS := ⟨2, by decide⟩) (sR := ⟨3, by decide⟩) (c := c) (dst := peer c j) (j := j) rfl rfl hj hj rfl rfl
     (srcM := Memref.whole main_v5_0) (dstM := ((Memref.whole main_v5_1).slice (Rect.unit (s := S4096) off S128.size inb) (fun _ => rfl))) (hsc := hsc) (hsrc := hsrc) (hdst := hdst) (hsem := hsem)
     (ShareLeaves.leaf 5 fullShare ⟨j % 32, Nat.mod_lt _ (by decide)⟩) P.cnt fd hN rfl (Entails.of_eq hv) (hw fd) O (K := K) (Q := Q)
  iintro ⟨#Hrec, #Hrs, HO, Ht, Ht', Hv, ⟨⟨%fd, Hd⟩, Hr⟩⟩
  iapply (hs fd) $$ [HO Ht Ht' Hv Hd Hr]
  isplitr; · iexact Hrec
  isplitl [HO]; · iexact HO
  isplitl [Hv]; · rw [hv]; iexact Hv
  isplitl [Hd]; · rw [slot_set c h]; iexact Hd
  isplitl [Ht]; · iexact Ht
  isplitr; · iexact Hrs
  isplitl [Ht']; · iexact Ht'
  iexact Hr

/-- The counts, whole, are 32 shares, one for each send. -/
theorem leaves (c : Dev nD) (f : S128.Idx → Elt F .i32) : (v50 c fullShare f : sProp 𝕄)
    = bigSep (Finset.Ico 0 32) fun j => v50 c (ShareLeaves.leaf 5 fullShare ⟨j % 32, Nat.mod_lt _ (by decide)⟩) f := by
  have h := ShareLeaves.pointsTo_leaves (Ix := Unit) (Name := ℕ) (U := UU) (Lvl := ℕ) (nD := nD) (τ := τ) (sig := sig) (Val := Elt F)
    (ℓ := (c : Thread nD τ).loc main_v5_0) Finset.univ f 5 fullShare
  refine h.trans ?_
  rw [over (s := (Finset.univ : Finset (Fin (2 ^ 5)))) (t := Finset.Ico 0 32) (fun i => i.val) (fun a _ b _ h => Fin.ext h) ?_ _]
  · exact bigSep_congr fun i _ => by
      have hi : i.val % 32 = i.val := Nat.mod_eq_of_lt i.isLt
      have he : (⟨i.val % 32, Nat.mod_lt _ (by decide)⟩ : Fin (2 ^ 5)) = i := Fin.ext hi
      rw [he]
  · ext n
    simp only [Finset.mem_image, Finset.mem_univ, true_and, Finset.mem_Ico]
    constructor
    · rintro ⟨a, rfl⟩; exact ⟨Nat.zero_le _, a.isLt⟩
    · rintro ⟨_, h⟩; exact ⟨⟨n, h⟩, rfl⟩

/-- The loop that sends the counts to every device. -/
theorem send_loop0 (c : Dev nD) (hgat : ∀ (e : S4096.Idx) (x : S128.Idx), (e 0).val % 128 = (x 0).val → P.gat e = P.cnt x)
    (O : CellTallies nD τ sig Unit) {β : Type} {kk : Unit → Prog (TpuEff nD τ sig (Elt F) Λ₀ .tc) β} {Q : β → sProp 𝕄}
    (arg0 : Memref sig .tc .vmem S512 .i32) (harg0 : arg0.IsWhole) :
    iprop(records P κ ∗ reached ER (cell .send0 c) 0 ∗ OW c (owed P .recv0 c 0 + O) ∗ toks P .send0 c 0 ∗ toks P .recv0 c 0
        ∗ v50 c fullShare P.cnt ∗ bigSep (Finset.Ico 0 32) fun n => door c (peer c n))
      ⊢ iprop((OW c O ∗ creds .send0 c 32 -∗ wp frame (wpE (defs₀ (F := F)) 𝒱₀ c none) Set.univ (kk ⟨⟩) Q)
        -∗ wp frame (wpE (defs₀ (F := F)) 𝒱₀ c none) Set.univ
          (Scf.Loop.for k0_t2_loop k0_t2_ok ⟨⟩ (k0_t2_body arg0 harg0 (Memref.whole main_v5_0) (Memref.isWhole_whole _)
            (Memref.whole main_v5_1) (Memref.isWhole_whole _) (Memref.whole cc0_scratch0) (Memref.isWhole_whole _)
            cc0_scratch1 cc0_scratch2 cc0_scratch3 cc0_scoped0 c) >>= kk) Q) := by
  have ht : Scf.trips k0_t2_loop.lb k0_t2_loop.ub k0_t2_loop.st = 32 := by decide
  have hloop := Scf.wp_for_bind frame (wpE (defs₀ (F := F)) 𝒱₀ (c : Thread nD τ) none) Set.univ k0_t2_loop.lb k0_t2_loop.ub k0_t2_loop.st k0_t2_ok
    (⟨⟩ : Unit) (k0_t2_body arg0 harg0 (Memref.whole main_v5_0) (Memref.isWhole_whole _)
            (Memref.whole main_v5_1) (Memref.isWhole_whole _) (Memref.whole cc0_scratch0) (Memref.isWhole_whole _)
            cc0_scratch1 cc0_scratch2 cc0_scratch3 cc0_scoped0 c)
    (fun j _ => iprop(records P κ ∗ reached ER (cell .send0 c) 0 ∗ OW c (owed P .recv0 c j + O) ∗ toks P .send0 c j ∗ toks P .recv0 c j
        ∗ (bigSep (Finset.Ico j 32) fun n => (pay P .send0 c c n : sProp 𝕄)) ∗ (bigSep (Finset.Ico j 32) fun n => door c (peer c n)) ∗ creds .send0 c j))
    (by
      intro t acc
      have hlt : t.val < 32 := lt_of_lt_of_eq t.isLt ht
      have hd : (⟨k0_dev2 c t, k0_dev2_lt c t⟩ : Dev nD) = tgt P .recv0 c t.val := Fin.ext (k0_dev2_eq c t)
      have hoff := k0_off1_eq c
      unfold k0_t2_body toks
      simp only [Prog.lift, Prog.bind_op, Prog.bind_ret, Prog.pure_eq_ret]
      rw [Ico_step (show t.val < num .send0 from hlt), Ico_step (show t.val < num .recv0 from hlt), Ico_step hlt, Ico_step hlt, creds_succ]
      iintro ⟨#Hrec, #Hrs, HO, ⟨Ht, Hts⟩, ⟨Ht', Hts'⟩, ⟨Hv, Hvs⟩, ⟨⟨Hd, Hr⟩, Hds⟩, Hcs⟩
      iapply (send0_step P κ hlt hd hgat hoff _ O) $$ [HO Ht Ht' Hv Hd Hr]
      · isplitr; · iexact Hrec
        isplitr; · iexact Hrs
        isplitl [HO]; · iexact HO
        isplitl [Ht]; · iexact Ht
        isplitl [Ht']; · iexact Ht'
        isplitl [Hv]; · iexact Hv
        isplitl [Hd]; · iexact Hd
        iexact Hr
      iintro ⟨Hc, HO⟩
      rw [wp_ret]
      imodintro
      isplitr; · iexact Hrec
      isplitr; · iexact Hrs
      isplitl [HO]; · iexact HO
      isplitl [Hts]; · iexact Hts
      isplitl [Hts']; · iexact Hts'
      isplitl [Hvs]; · iexact Hvs
      isplitl [Hds]; · iexact Hds
      isplitl [Hcs]; · iexact Hcs
      iexact Hc) (kk := kk) (Q := Q)
  refine BIBase.Entails.trans ?_ (hloop.trans ?_)
  · rw [creds_zero]
    iintro ⟨#Hrec, #Hrs, HO, Ht, Ht', Hv, Hd⟩
    isplitr; · iexact Hrec
    isplitr; · iexact Hrs
    isplitl [HO]; · iexact HO
    isplitl [Ht]; · iexact Ht
    isplitl [Ht']; · iexact Ht'
    isplitl [Hv]; · iapply (Entails.of_eq (leaves c P.cnt)); iexact Hv
    isplitl [Hd]; · iexact Hd
    iempintro
  iintro Hl Hk
  iapply Hl
  iintro %acc H
  rw [ht]
  icases H with ⟨-, -, HO, -, -, -, -, Hc⟩
  iapply Hk
  isplitl [HO]
  · have : owed P .recv0 c 32 = 0 := owed_end P .recv0 c
    rw [this, zero_add]; iexact HO
  iexact Hc

/-! ## What the barriers hand over -/

/-- A family over the trips of a signalling loop, by the device signalled. -/
theorem shift (Φ : ℕ → sProp 𝕄) : (bigSep (Finset.Ico 1 32) Φ : sProp 𝕄) = bigSep (Finset.Ico 0 31) fun i => Φ (i + 1) := by
  refine over (fun i => i + 1) (fun a _ b _ h => by simpa using h) ?_ Φ
  ext n
  simp only [Finset.mem_image, Finset.mem_Ico]
  constructor
  · rintro ⟨a, ha, rfl⟩; omega
  · rintro ⟨h1, h2⟩; exact ⟨n - 1, by omega, by omega⟩

/-- To each other device the entry barrier hands the part of the gathered counts that the device is to fill. -/
theorem hand_bar0 (c : Dev nD) (f : S4096.Idx → Elt F .i32) :
    iprop((records P κ ∗ reached ER (cell .recv0 c) 0 ∗ reached ER (cell .end0 c) 0)
      ∗ bigSep (Finset.Ico 1 32) fun n => slotPt c (peer c n) f) ⊢ bigSep (Finset.Ico 0 (num .bar0)) (hand P .bar0 c) := by
  rw [shift]
  refine bigSep_with_persistent fun i _ => ?_
  show _ ⊢ iprop(((∃ f, slotPt c (peer c (i + 1)) f) ∗ reached ER (cell .recv0 c) 0 ∗ reached ER (cell .end0 c) 0) ∗ reached ER (cell .bar0 (peer c (i + 1))) 0)
  iintro ⟨⟨#Hrec, #Hr, #He⟩, H⟩
  isplitl [H]
  · isplitl [H]; · iexists f; iexact H
    isplitr; · iexact Hr
    iexact He
  iapply (records_bar0 P κ (peer c (i + 1))); iexact Hrec

/-- What the entry barrier's payments hand to a device: what it needs for its sends, and for the closing barrier. -/
theorem got_bar0 (c : Dev nD) : (bigSep (dut P .bar0 c) fun x => pay P .bar0 c x.1 x.2 : sProp 𝕄)
    ⊢ iprop((bigSep (Finset.Ico 1 32) fun n => door c (peer c n)) ∗ bigSep (Finset.Ico 1 32) fun n => reached ER (cell .end0 (peer c n)) 0) := by
  rw [← bigSep_sep']
  refine (Entails.of_eq (dut_bar P (k := .bar0) (Or.inl rfl) c (fun p => iprop((∃ f, slotPt p c f) ∗ reached ER (cell .recv0 p) 0 ∗ reached ER (cell .end0 p) 0)))).trans ?_
  refine bigSep_mono fun n _ => ?_
  show iprop((∃ f, slotPt (peer c n) c f) ∗ reached ER (cell .recv0 (peer c n)) 0 ∗ reached ER (cell .end0 (peer c n)) 0) ⊢ _
  iintro ⟨H, Hr, He⟩
  isplitr [He]
  · isplitl [H]; · iexact H
    iexact Hr
  iexact He

/-- The closing barrier hands nothing over. -/
theorem hand_end0 (c : Dev nD) : (bigSep (Finset.Ico 1 32) fun n => reached ER (cell .end0 (peer c n)) 0 : sProp 𝕄)
    ⊢ bigSep (Finset.Ico 0 (num .end0)) (hand P .end0 c) := by
  rw [shift]
  refine bigSep_mono fun i _ => ?_
  show _ ⊢ iprop(emp ∗ reached ER (cell .end0 (peer c (i + 1))) 0)
  iintro H
  isplitr; · iempintro
  iexact H

/-! ## The body's loops, on the buffers and semaphores that the call runs on -/

/-- One trip of the first barrier's signals, -/
abbrev bodyA (c : Dev nD) := k0_t1_body (F := F) (Memref.whole cc0_stg0_0) (Memref.isWhole_whole _) (Memref.whole main_v5_0) (Memref.isWhole_whole _) (Memref.whole main_v5_1)
  (Memref.isWhole_whole _) (Memref.whole cc0_scratch0) (Memref.isWhole_whole _) cc0_scratch1 cc0_scratch2 cc0_scratch3 cc0_scoped0 c (SemArray.scalar (sig.barrier 0 rfl))
/-- of the waits for the sends, -/
abbrev bodyC := k0_t3_body (F := F) (Memref.whole cc0_stg0_0) (Memref.isWhole_whole _) (Memref.whole main_v5_0) (Memref.isWhole_whole _) (Memref.whole main_v5_1)
  (Memref.isWhole_whole _) (Memref.whole cc0_scratch0) (Memref.isWhole_whole _) cc0_scratch1 cc0_scratch2 cc0_scratch3 cc0_scoped0
/-- of the waits for the arrivals, -/
abbrev bodyD := k0_t4_body (F := F) (Memref.whole cc0_stg0_0) (Memref.isWhole_whole _) (Memref.whole main_v5_0) (Memref.isWhole_whole _) (Memref.whole main_v5_1)
  (Memref.isWhole_whole _) (Memref.whole cc0_scratch0) (Memref.isWhole_whole _) cc0_scratch1 cc0_scratch2 cc0_scratch3 cc0_scoped0
/-- and of the last barrier's signals. -/
abbrev bodyE (c : Dev nD) := k0_t5_body (F := F) (Memref.whole cc0_stg0_0) (Memref.isWhole_whole _) (Memref.whole main_v5_0) (Memref.isWhole_whole _) (Memref.whole main_v5_1)
  (Memref.isWhole_whole _) (Memref.whole cc0_scratch0) (Memref.isWhole_whole _) cc0_scratch1 cc0_scratch2 cc0_scratch3 cc0_scoped0 c

/-- A trip of the first barrier is one signal to the next device in turn. -/
theorem bodyA_eq (c : Dev nD) (t : Fin k0_t1_loop.trips) (acc : Unit) : ∃ dst : Dev nD, dst = tgt P .bar0 c t.val
    ∧ bodyA (F := F) c t acc = .op (.semSignal (Dev.tc dst) ⟨0, by decide⟩ 1) fun _ => .ret ⟨⟩ :=
  ⟨⟨k0_dev1 c t, k0_dev1_lt c t⟩, Fin.ext (k0_dev1_eq c t), rfl⟩

/-- A trip of the last barrier is one signal to the next device in turn. -/
theorem bodyE_eq (c : Dev nD) (t : Fin k0_t5_loop.trips) (acc : BitVec 32) : ∃ dst : Dev nD, dst = tgt P .end0 c t.val
    ∧ bodyE (F := F) c t acc = .op (.semSignal (Dev.tc dst) ⟨1, by decide⟩ 1) fun _ => .ret 0#32 :=
  ⟨⟨k0_dev3 c t, k0_dev3_lt c t⟩, Fin.ext (k0_dev3_eq c t), rfl⟩

/-- A trip of the waits for the sends is one wait for one send's amount. -/
theorem bodyC_eq (c : Dev nD) (t : Fin k0_t3_loop.trips) (acc : Unit) : ∃ e : TpuEff nD τ sig (Elt F) Λ₀ .tc PUnit,
    (∀ K : PUnit → sProp 𝕄, wpE (defs₀ (F := F)) 𝒱₀ (c : Thread nD τ) none Set.univ e K
      = waitSpec (c : Thread nD τ) Set.univ (semOf .send0) (amt .send0) K) ∧ bodyC (F := F) t acc = .op e fun _ => .ret ⟨⟩ :=
  ⟨_, fun K => wpE_waitDma2_eq 𝒱₀ (c : Thread nD τ) none Set.univ K, rfl⟩

/-- A trip of the waits for the arrivals is one wait for one arrival's amount. -/
theorem bodyD_eq (c : Dev nD) (t : Fin k0_t4_loop.trips) (acc : Unit) : ∃ e : TpuEff nD τ sig (Elt F) Λ₀ .tc PUnit,
    (∀ K : PUnit → sProp 𝕄, wpE (defs₀ (F := F)) 𝒱₀ (c : Thread nD τ) none Set.univ e K
      = waitSpec (c : Thread nD τ) Set.univ (semOf .recv0) (amt .recv0) K) ∧ bodyD (F := F) t acc = .op e fun _ => .ret ⟨⟩ := by
  refine ⟨_, ?_, rfl⟩
  intro K
  exact wpE_waitDma2_eq 𝒱₀ (c : Thread nD τ) none Set.univ K

/-! ## Reading and writing whole buffers -/

/-- Reading the staged destinations whole gives them. -/
theorem read_stage (f : S512.Idx → Elt F .i32) :
    ((Memref.whole cc0_stg0_0).access (Rect.unit (s := S512) ![0] S512.size inb_S512_S512_0)).read (Elt F) f = f := by
  funext x
  rw [View.read_apply]
  show f _ = f x
  congr 1
  funext a
  apply Fin.ext
  have ha : a = (0 : Fin 1) := Subsingleton.elim (α := Fin 1) _ _
  subst ha
  show 0 + 1 * (x 0).val = (x 0).val
  omega

/-- Writing the counts' scratch whole leaves what is written. -/
theorem write_scr (f w : S128.Idx → Elt F .i32) :
    ((Memref.whole cc0_scratch0).access (Rect.unit (s := S128) ![0] S128.size inb_S128_S128_0)).write (Elt F) f w Finset.univ = w := by
  funext x
  have hx : ((Memref.whole cc0_scratch0).access (Rect.unit (s := S128) ![0] S128.size inb_S128_S128_0)).emb x = x := by
    funext a
    apply Fin.ext
    have ha : a = (0 : Fin 1) := Subsingleton.elim (α := Fin 1) _ _
    subst ha
    show 0 + 1 * (x 0).val = (x 0).val
    omega
  conv_lhs => rw [← hx]
  rw [View.write_emb_of_mem _ _ (Finset.mem_univ x)]
  rfl

/-- The local copy of the counts, and the wait for it. -/
theorem copy_step (c : Dev nD) {hsrc : (Memref.whole cc0_scratch0).view.WordExact} {hdst : (Memref.whole main_v5_0).view.WordExact}
    {hsem : DmaTarget.Typed (nD := nD) (τ := τ) cc0_scratch0.space (.dma (⟨1, by decide⟩ : DmaSem sig)) (.here (Memref.whole main_v5_0) : DmaTarget nD τ sig (Proc.tc : Proc τ) main_v5_0.space S128 .i32)}
    {hsrc' : (Memref.whole cc0_scratch0).view.WordExact} {hdst' : (Memref.whole main_v5_0).view.WordExact}
    (f : S128.Idx → Elt F .i32) {O : CellTallies nD τ sig Unit} (hO : Above 0 O) {α : Type}
    {K : PUnit → Prog (TpuEff nD τ sig (Elt F) Λ₀ .tc) α} {Q : α → sProp 𝕄} :
    iprop(records P κ ∗ reached ER (cell .copy c) 0 ∗ OW c O ∗ tok P .copy c 0 ∗ atPos ER (cell .copy c) 0 ∅ 0 ∗ scr0 c P.cnt ∗ v50 c fullShare f)
      ⊢ iprop((OW c O ∗ atPos ER (cell .copy c) (0 + 1) ∅ 0 ∗ scr0 c P.cnt ∗ v50 c fullShare P.cnt
          -∗ wp frame (wpE (defs₀ (F := F)) 𝒱₀ c none) Set.univ (K ⟨⟩) Q)
        -∗ wp frame (wpE (defs₀ (F := F)) 𝒱₀ c none) Set.univ
          (.op (.enqueueDma (Memref.whole cc0_scratch0) (.here (Memref.whole main_v5_0)) (.dma ⟨1, by decide⟩) hsrc hdst hsem) fun _ =>
            .op (.waitDma2 ⟨1, by decide⟩ (Memref.whole cc0_scratch0) (Memref.whole main_v5_0) hsrc' hdst') K) Q) := by
  have hpay : iprop((((Memref.whole main_v5_0).view.loc (c : Thread nD τ)) ↦[(Memref.whole main_v5_0).view.set]{fullShare}
        ((Memref.whole main_v5_0).view.write (Elt F) f ((Memref.whole cc0_scratch0).view.read (Elt F) P.cnt) Finset.univ))
      ∗ (((Memref.whole cc0_scratch0).view.loc (c : Thread nD τ)) ↦[(Memref.whole cc0_scratch0).view.set]{fullShare} P.cnt)) ⊢ (pay P .copy c c 0 : sProp 𝕄) := by
    rw [show (Memref.whole main_v5_0).view.set = Finset.univ from View.set_whole _, show (Memref.whole cc0_scratch0).view.set = Finset.univ from View.set_whole _,
      show (Memref.whole main_v5_0).view.write (Elt F) f ((Memref.whole cc0_scratch0).view.read (Elt F) P.cnt) Finset.univ = P.cnt from View.write_whole_univ main_v5_0 f P.cnt]
    exact Entails.of_eq rfl
  have hg := Rounds.wp_copy_pointsTo (defs := defs₀ (F := F)) 𝒱₀ (ER (F := F)) (rd P) (c : Thread nD τ) none (Γ := .empty)
    (src := Memref.whole cc0_scratch0) (dst := Memref.whole main_v5_0) (sem := .dma ⟨1, by decide⟩) (hsrc := hsrc) (hdst := hdst) (hsem := hsem)
    (q := fullShare) (fs := P.cnt) (fd := f) (r := 0) (d := (c, 0)) (κ := κ (cell .copy c)) (Es := Set.univ)
    (k := fun _ => .op (.waitDma2 ⟨1, by decide⟩ (Memref.whole cc0_scratch0) (Memref.whole main_v5_0) hsrc' hdst') K) (Q := Q)
    (by rw [show ((c : Thread nD τ), SemLoc.dma ⟨1, by decide⟩) = cell .copy c from rfl, duties_cell]; exact (mem_dut P).2 ⟨Nat.one_pos, rfl⟩)
    () (amt .copy) rfl (amount_cell P .copy c _) (by rw [show ((c : Thread nD τ), SemLoc.dma ⟨1, by decide⟩) = cell .copy c from rfl, payload_cell]; exact hpay)
  iintro ⟨#Hrec, Hr, HO, Ht, Hat, Hs, Hv⟩ Hk
  iapply hg $$ [Hr Ht Hs Hv]
  · isplitr; · iapply (records_inv P κ .copy c); iexact Hrec
    isplitl [Hs]; · rw [show (Memref.whole cc0_scratch0).view.set = Finset.univ from View.set_whole _]; iexact Hs
    isplitl [Hv]; · rw [show (Memref.whole main_v5_0).view.set = Finset.univ from View.set_whole _]; iexact Hv
    isplitl [Ht]; · iexact Ht
    iexact Hr
  iintro Hc
  iapply (wait_all P κ (k := .copy) (O := O) (c := c) hO (fun K => (wpE_waitDma2_eq 𝒱₀ (c : Thread nD τ) none Set.univ K).trans
    (by rw [show num .copy * amt .copy = amt .copy from Nat.one_mul _]; rfl))) $$ [HO Hat Hc]
  · isplitr; · iexact Hrec
    isplitl [HO]; · iexact HO
    isplitl [Hat]; · iexact Hat
    unfold creds
    rw [show num .copy * amt .copy = amt .copy from Nat.one_mul _]
    iexact Hc
  iintro ⟨HO, Hat, Hp⟩
  ihave Hp := (Entails.of_eq (((dut_own P (Or.inl rfl) c _).trans (bigSep_Ico_one 0 _)).trans
    (show pay P .copy c c 0 = iprop(v50 c fullShare P.cnt ∗ scr0 c P.cnt) from rfl))) $$ Hp
  icases Hp with ⟨Hv, Hs⟩
  iapply Hk
  isplitl [HO]; · iexact HO
  isplitl [Hat]; · iexact Hat
  isplitl [Hs]; · iexact Hs
  iexact Hv

/-! ## The body -/

/-- What the first call's body starts from on device c, whose destinations are staged at A: its protocol state, its
    buffers at any contents, and D that it still owes afterwards. -/
def pre0 (c : Dev nD) (D : CellTallies nD τ sig Unit) (A : S512.Idx → Elt F .i32) : sProp 𝕄 :=
  iprop(records P κ ∗ OW c (due0 P c + D)
    ∗ (toks P .bar0 c 0 ∗ toks P .copy c 0 ∗ toks P .send0 c 0 ∗ toks P .recv0 c 0 ∗ toks P .end0 c 0)
    ∗ (creds .bar0 c 31 ∗ creds .recv0 c 32 ∗ creds .end0 c 31)
    ∗ (atPos ER (cell .bar0 c) 0 ∅ 0 ∗ atPos ER (cell .copy c) 0 ∅ 0 ∗ atPos ER (cell .send0 c) 0 ∅ 0
      ∗ atPos ER (cell .recv0 c) 0 ∅ 0 ∗ atPos ER (cell .end0 c) 0 ∅ 0)
    ∗ (reached ER (cell .copy c) 0 ∗ reached ER (cell .send0 c) 0 ∗ reached ER (cell .recv0 c) 0 ∗ reached ER (cell .end0 c) 0)
    ∗ ((c : Thread nD τ).loc cc0_stg0_0 ↦{fullShare} A)
    ∗ (∃ f, v50 c fullShare f) ∗ (∃ f, (c : Thread nD τ).loc main_v5_1 ↦{fullShare} f) ∗ (∃ f, scr0 c f))

/-- What it returns: the counts, the gathered counts, every cell closed. -/
def post0 (c : Dev nD) (D : CellTallies nD τ sig Unit) (A : S512.Idx → Elt F .i32) : sProp 𝕄 :=
  iprop(OW c D
    ∗ (semVal (cell .bar0 c) 0 ∗ semVal (cell .copy c) 0 ∗ semVal (cell .send0 c) 0 ∗ semVal (cell .recv0 c) 0 ∗ semVal (cell .end0 c) 0)
    ∗ ((c : Thread nD τ).loc cc0_stg0_0 ↦{fullShare} A)
    ∗ v50 c fullShare P.cnt ∗ ((c : Thread nD τ).loc main_v5_1 ↦{fullShare} P.gat) ∗ (∃ f, scr0 c f))

set_option maxHeartbeats 1000000 in
/-- The first call's body, from what `pre0` holds, ends with what `post0` holds. -/
theorem run0 (c : Dev nD) (D : CellTallies nD τ sig Unit) (hD : Above 3 D) (A : S512.Idx → Elt F .i32)
    (hcnt : k0_pay1 (F := F) A = P.cnt)
    (hgat : ∀ (e : S4096.Idx) (x : S128.Idx), (e 0).val % 128 = (x 0).val → P.gat e = P.cnt x)
    (Kt : PUnit → sProp 𝕄) :
    iprop(pre0 P κ c D A ∗ (post0 P c D A -∗ Kt ⟨⟩))
      ⊢ wp frame (wpE (defs₀ (F := F)) 𝒱₀ c none) Set.univ
          (cc0_body (Memref.whole cc0_stg0_0) (Memref.isWhole_whole _) (Memref.whole main_v5_0) (Memref.isWhole_whole _) (Memref.whole main_v5_1) (Memref.isWhole_whole _)
            (Memref.whole cc0_scratch0) (Memref.isWhole_whole _) cc0_scratch1 cc0_scratch2 cc0_scratch3 cc0_scoped0) Kt := by
  simp only [cc0_body_eq_skeleton]; unfold cc0_body_skel; simp only [k0_part1_eq_skeleton]; unfold k0_part1_skel
  simp only [semSignalWord, semWaitWord, Prog.lift, Prog.bind_op, Prog.bind_ret, Prog.pure_eq_ret, Prog.bind_assoc, wp_deviceId]
  unfold pre0 due0
  iintro ⟨⟨#Hrec, HO, ⟨Tb, Tc, Ts, Tr, Te⟩, ⟨Cb, Cr, Ce⟩, ⟨Ab, Ac, As, Ar, Ae⟩, ⟨#Rc, #Rs, #Rr, #Re⟩, HA, ⟨%f0, Hv0⟩, ⟨%f1, Hv1⟩, ⟨%fs, Hsc⟩⟩, Hk⟩
  have hp0 : peer c 0 = c := Fin.ext (by have h : c.val < 32 := c.isLt; show (c.val + 0) % 32 = c.val; omega)
  -- the entry barrier
  ihave Hv1 := (Entails.of_eq ((slots_split c f1).trans ((devs_from c _).trans (Ico_step (by decide) _)))) $$ Hv1
  icases Hv1 with ⟨Hown, Hv1⟩
  iapply (signal_loop P κ (k := .bar0) (sem := ⟨0, by decide⟩) rfl rfl k0_t1_ok (by decide) ⟨⟩ ⟨⟩ (bodyA c) (bodyA_eq P c)
    ((owed P .recv0 c 0 + owed P .end0 c 0) + D)) $$ [HO Tb Hv1]
  · isplitr; · iexact Hrec
    isplitl [HO]; · rw [add_assoc]; iexact HO
    isplitl [Tb]; · iexact Tb
    iapply (hand_bar0 P κ c f1)
    isplitr
    · isplitr; · iexact Hrec
      isplitr; · iexact Rr
      iexact Re
    iexact Hv1
  iintro %acc HO
  have hO1 : Above (lvK .bar0) ((owed P .recv0 c 0 + owed P .end0 c 0) + D) :=
    ((Above.owed P (by decide) c 0).add (Above.owed P (by decide) c 0)).add (hD.mono (by decide))
  iapply (wait_all P κ (k := .bar0) hO1 (wpE_semWait_eq 𝒱₀ (c : Thread nD τ) none Set.univ)) $$ [HO Ab Cb]
  · isplitr; · iexact Hrec
    isplitl [HO]; · iexact HO
    isplitl [Ab]; · iexact Ab
    iexact Cb
  iintro ⟨HO, Ab, Hgot⟩
  ihave Hgot := (got_bar0 P c) $$ Hgot
  icases Hgot with ⟨Hdoor, Hend⟩
  -- the counts
  iapply (wp_load_rect 𝒱₀ (c : Thread nD τ) none Set.univ (m := Memref.whole cc0_stg0_0) (r := Rect.unit (s := S512) ![0] S512.size inb_S512_S512_0) (S := Finset.univ) (q := fullShare) (f := A) (Finset.subset_univ _)) $$ HA
  iintro HA
  rw [read_stage]
  iapply (wp_load_rect 𝒱₀ (c : Thread nD τ) none Set.univ (m := Memref.whole cc0_scratch0) (r := Rect.unit (s := S128) ![0] S128.size inb_S128_S128_0) (S := Finset.univ) (q := fullShare) (f := fs) (Finset.subset_univ _)) $$ Hsc
  iintro Hsc
  iapply (wp_store 𝒱₀ (c : Thread nD τ) none Set.univ (m := Memref.whole cc0_scratch0) (r := Rect.unit (s := S128) ![0] S128.size inb_S128_S128_0) (S := Finset.univ) (f := fs) (Finset.subset_univ _)) $$ Hsc
  iintro Hsc
  rw [write_scr, hcnt]
  -- their copy
  have hO0 : Above 0 ((owed P .recv0 c 0 + owed P .end0 c 0) + D) :=
    ((Above.owed P (by decide) c 0).add (Above.owed P (by decide) c 0)).add (hD.mono (by decide))
  ihave Tc := (Entails.of_eq (show toks P .copy c 0 = tok P .copy c 0 from bigSep_Ico_one 0 _)) $$ Tc
  iapply (copy_step P κ c f0 hO0) $$ [HO Tc Ac Hsc Hv0]
  · isplitr; · iexact Hrec
    isplitr; · iexact Rc
    isplitl [HO]; · iexact HO
    isplitl [Tc]; · iexact Tc
    isplitl [Ac]; · iexact Ac
    isplitl [Hsc]; · iexact Hsc
    iexact Hv0
  iintro ⟨HO, Ac, Hsc, Hv0⟩
  -- the sends
  rw [add_assoc]
  iapply (send_loop0 P κ c hgat (owed P .end0 c 0 + D) (Memref.whole cc0_stg0_0) (Memref.isWhole_whole _)) $$ [HO Ts Tr Hv0 Hown Hdoor]
  · isplitr; · iexact Hrec
    isplitr; · iexact Rs
    isplitl [HO]; · iexact HO
    isplitl [Ts]; · iexact Ts
    isplitl [Tr]; · iexact Tr
    isplitl [Hv0]; · iexact Hv0
    rw [Ico_step (show 0 < 32 by decide), hp0]
    isplitl [Hown]
    · isplitl [Hown]; · iexists f1; iexact Hown
      iexact Rr
    iexact Hdoor
  iintro ⟨HO, Cs⟩
  -- the waits for them
  have hO2 : ∀ k, lvK k < 3 → Above (lvK k) (owed P .end0 c 0 + D) := fun k hk =>
    (Above.owed P (k := .end0) (by show lvK k < 3; exact hk) c 0).add (hD.mono hk.le)
  ihave As := (waitSt_zero P .send0 c) $$ As
  ihave Ar := (waitSt_zero P .recv0 c) $$ Ar
  iapply (wait_loop P κ (k := .send0) (c := c) 0 k0_t3_ok (by decide) ⟨⟩ ⟨⟩ bodyC (bodyC_eq c) (hO2 .send0 (by decide))) $$ [HO As Cs]
  · isplitr; · iexact Hrec
    isplitl [HO]; · iexact HO
    isplitl [As]; · iexact As
    iexact Cs
  iintro %acc2 ⟨HO, As, Hv0⟩
  iapply (wait_loop P κ (k := .recv0) (c := c) 0 k0_t4_ok (by decide) ⟨⟩ ⟨⟩ bodyD (bodyD_eq c) (hO2 .recv0 (by decide))) $$ [HO Ar Cr]
  · isplitr; · iexact Hrec
    isplitl [HO]; · iexact HO
    isplitl [Ar]; · iexact Ar
    iexact Cr
  iintro %acc3 ⟨HO, Ar, Hv1⟩
  -- the closing barrier
  iapply (signal_loop P κ (k := .end0) (sem := ⟨1, by decide⟩) rfl rfl k0_t5_ok (by decide) 0#32 0#32 (bodyE c) (bodyE_eq P c) D) $$ [HO Te Hend]
  · isplitr; · iexact Hrec
    isplitl [HO]; · iexact HO
    isplitl [Te]; · iexact Te
    iapply (hand_end0 P c); iexact Hend
  iintro %acc4 HO
  iapply (wait_all P κ (k := .end0) hD (wpE_semWait_eq 𝒱₀ (c : Thread nD τ) none Set.univ)) $$ [HO Ae Ce]
  · isplitr; · iexact Hrec
    isplitl [HO]; · iexact HO
    isplitl [Ae]; · iexact Ae
    iexact Ce
  iintro ⟨HO, Ae, -⟩
  rw [wp_ret]
  imod (close P κ .bar0 c) $$ [Ab] with Zb
  · isplitr; · iexact Hrec
    iexact Ab
  imod (close P κ .copy c) $$ [Ac] with Zc
  · isplitr; · iexact Hrec
    iexact Ac
  imod (close P κ .send0 c) $$ [As] with Zs
  · isplitr; · iexact Hrec
    iexact As
  imod (close P κ .recv0 c) $$ [Ar] with Zr
  · isplitr; · iexact Hrec
    iexact Ar
  imod (close P κ .end0 c) $$ [Ae] with Ze
  · isplitr; · iexact Hrec
    iexact Ae
  imodintro
  iapply Hk
  unfold post0
  isplitl [HO]; · iexact HO
  isplitl [Zb Zc Zs Zr Ze]
  · isplitl [Zb]; · iexact Zb
    isplitl [Zc]; · iexact Zc
    isplitl [Zs]; · iexact Zs
    isplitl [Zr]; · iexact Zr
    iexact Ze
  isplitl [HA]; · iexact HA
  isplitl [Hv0]
  · iapply (Entails.of_eq ((leaves c P.cnt).trans (dut_own P (Or.inr (Or.inl rfl)) c (fun x => pay P .send0 c x.1 x.2)).symm).symm)
    iexact Hv0
  isplitl [Hv1]
  · iapply (Entails.of_eq ((slots_split c P.gat).trans (dut_recv0 P c (fun p => slotPt c p P.gat)).symm).symm)
    iexact Hv1
  iexists _; iexact Hsc

end Cert.Proof.Talk
-- ==== Proof.Words.lean ====
/- The second call's loop of sends: the words it reads and writes, and one trip of it. -/
module

public import proofs.«01_k».proof.Proof.Body0
public import Idealize.ShloMosaic.Lib.Exec.Context

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Plan F) (κ : GSem nD τ sig → ℕ)

/-! ## Rows -/

/-- A slice of one row of what a device sends. -/
theorem src_set {p : ℕ} {off : Fin 3 → ℕ} (h : off = ![p, 0, 0]) (inb : ∀ a, off a + S1x1x256.size a ≤ S512x1x256.size a) :
    ((Memref.whole main_v20).slice (Rect.unit (s := S512x1x256) off S1x1x256.size inb) (fun _ => rfl)).view.set = rowSet p := by
  subst h
  refine (View.set_slice_whole main_v20 _).trans ?_
  ext e
  rw [Rect.mem_set_unit, mem_rowSet]
  have h : (∀ a : Fin 3, (![p, 0, 0] : Fin 3 → ℕ) a ≤ (e a).val ∧ (e a).val < (![p, 0, 0] : Fin 3 → ℕ) a + S1x1x256.size a)
      ↔ (p ≤ (e 0).val ∧ (e 0).val < p + 1) := by
    constructor
    · intro h; exact h 0
    · intro h a
      match a with
      | 0 => exact h
      | 1 => exact ⟨Nat.zero_le _, (e 1).isLt⟩
      | 2 => exact ⟨Nat.zero_le _, by have h2 : (e 2).val < 256 := (e 2).isLt; show (e 2).val < 0 + 256; omega⟩
  refine h.trans ?_
  omega

/-- A slice of one row of what a device receives. -/
theorem dst_set {p : ℕ} {off : Fin 3 → ℕ} (h : off = ![p, 0, 0]) (inb : ∀ a, off a + S1x1x256.size a ≤ S512x1x256.size a) :
    ((Memref.whole main_v21).slice (Rect.unit (s := S512x1x256) off S1x1x256.size inb) (fun _ => rfl)).view.set = rowSet p :=
  (View.set_slice_whole main_v21 _).trans ((View.set_slice_whole main_v20 _).symm.trans (src_set h inb))

/-- What a row holds when a sent row has been written there. -/
theorem row_write {c : Dev nD} {j : ℕ} (hj : j < 512) {off off' : Fin 3 → ℕ} (h : off = ![j, 0, 0]) (h' : off' = ![P.pos c j, 0, 0])
    (inb : ∀ a, off a + S1x1x256.size a ≤ S512x1x256.size a) (inb' : ∀ a, off' a + S1x1x256.size a ≤ S512x1x256.size a)
    (f : S512x1x256.Idx → Elt F .bf16) (e : S512x1x256.Idx) (he : e ∈ rowSet (P.pos c j)) :
    ((Memref.whole main_v21).slice (Rect.unit (s := S512x1x256) off' S1x1x256.size inb') (fun _ => rfl)).view.write (Elt F) f
      (((Memref.whole main_v20).slice (Rect.unit (s := S512x1x256) off S1x1x256.size inb) (fun _ => rfl)).view.read (Elt F) (P.X c)) Finset.univ e
      = P.Y (P.dst c j) e := by
  rw [← dst_set h' inb'] at he
  obtain ⟨x, -, rfl⟩ := Finset.mem_map.1 he
  rw [View.write_emb_of_mem _ _ (Finset.mem_univ x), View.read_apply]
  have hx0 : (x 0).val < 1 := (x 0).isLt
  subst h; subst h'
  symm
  refine P.land c j _ _ hj ?_ ?_ rfl
  · show j + 1 * (x 0).val = j
    omega
  · show P.pos c j + 1 * (x 0).val = P.pos c j
    omega

/-! ## Words -/

/-- A word of the destinations. -/
theorem read_dst (f : S512.Idx → Elt F .i32) {off : Fin 1 → ℕ} (inb : ∀ a, off a + S1.size a ≤ S512.size a)
    (y : (Rect.unit (s := S512) off S1.size inb).shape.Idx) (x : S512.Idx) (h : (x 0).val = off 0) :
    ((Memref.whole cc1_stg0_0).access (Rect.unit (s := S512) off S1.size inb)).read (Elt F) f y = f x := by
  rw [View.read_apply]
  show f _ = f x
  congr 1
  funext a
  apply Fin.ext
  have ha : a = (0 : Fin 1) := Subsingleton.elim (α := Fin 1) _ _
  subst ha
  show off 0 + 1 * (y 0).val = (x 0).val
  have hy : (y 0).val < 1 := (y 0).isLt
  omega

/-- A word of the offsets. -/
theorem read_off (f : S32.Idx → Elt F .i32) {off : Fin 1 → ℕ} (inb : ∀ a, off a + S1.size a ≤ S32.size a)
    (y : (Rect.unit (s := S32) off S1.size inb).shape.Idx) (x : S32.Idx) (h : (x 0).val = off 0) :
    ((Memref.whole cc1_stg1_0).access (Rect.unit (s := S32) off S1.size inb)).read (Elt F) f y = f x := by
  rw [View.read_apply]
  show f _ = f x
  congr 1
  funext a
  apply Fin.ext
  have ha : a = (0 : Fin 1) := Subsingleton.elim (α := Fin 1) _ _
  subst ha
  show off 0 + 1 * (y 0).val = (x 0).val
  have hy : (y 0).val < 1 := (y 0).isLt
  omega

/-- A word of the running counts. -/
theorem read_seen (f : S32.Idx → Elt F .i32) {off : Fin 1 → ℕ} (inb : ∀ a, off a + S1.size a ≤ S32.size a)
    (y : (Rect.unit (s := S32) off S1.size inb).shape.Idx) (x : S32.Idx) (h : (x 0).val = off 0) :
    ((Memref.whole cc1_scratch0).access (Rect.unit (s := S32) off S1.size inb)).read (Elt F) f y = f x := by
  rw [View.read_apply]
  show f _ = f x
  congr 1
  funext a
  apply Fin.ext
  have ha : a = (0 : Fin 1) := Subsingleton.elim (α := Fin 1) _ _
  subst ha
  show off 0 + 1 * (y 0).val = (x 0).val
  have hy : (y 0).val < 1 := (y 0).isLt
  omega

/-- The running counts after one word of them is written. -/
theorem write_seen (f : S32.Idx → Elt F .i32) {off : Fin 1 → ℕ} (inb : ∀ a, off a + S1.size a ≤ S32.size a) (w : Elt F .i32) (z : S32.Idx) :
    ((Memref.whole cc1_scratch0).access (Rect.unit (s := S32) off S1.size inb)).write (Elt F) f (fun _ => w) Finset.univ z
      = if (z 0).val = off 0 then w else f z := by
  by_cases h : (z 0).val = off 0
  · rw [if_pos h]
    have hz : ((Memref.whole cc1_scratch0).access (Rect.unit (s := S32) off S1.size inb)).emb (fun a => ⟨0, by
        have ha : a = (0 : Fin 1) := Subsingleton.elim (α := Fin 1) _ _
        subst ha; exact Nat.one_pos⟩) = z := by
      funext a
      apply Fin.ext
      have ha : a = (0 : Fin 1) := Subsingleton.elim (α := Fin 1) _ _
      subst ha
      show off 0 + 1 * 0 = (z 0).val
      omega
    conv_lhs => rw [← hz]
    rw [View.write_emb_of_mem _ _ (Finset.mem_univ _)]
    rfl
  · rw [if_neg h]
    refine View.write_of_not_mem (v := (Memref.whole cc1_scratch0).access (Rect.unit (s := S32) off S1.size inb)) f (fun _ => w) Finset.univ (i := z) ?_
    intro hm
    obtain ⟨x, -, hx⟩ := Finset.mem_map.1 hm
    have h0 := congrArg (fun z : S32.Idx => (z 0).val) hx
    have h1 : off 0 + 1 * (x 0).val = (z 0).val := h0
    have hx0 : (x 0).val < 1 := (x 0).isLt
    omega

/-! ## The running counts -/

/-- How many of device c's first j rows go to rank r. -/
def seen (c : Dev nD) (j r : ℕ) : ℕ := ((Finset.range j).filter fun i => (P.dst c i).val = r).card

/-- No more than j rows are counted of j. -/
theorem seen_le (c : Dev nD) (j r : ℕ) : seen P c j r ≤ j := by
  unfold seen
  exact (Finset.card_filter_le _ _).trans (le_of_eq (Finset.card_range j))

/-- Row j adds one to its own rank's count. -/
theorem seen_succ (c : Dev nD) (j r : ℕ) : seen P c (j + 1) r = if r = (P.dst c j).val then seen P c j r + 1 else seen P c j r := by
  unfold seen
  rw [Finset.range_add_one, Finset.filter_insert]
  by_cases h : (P.dst c j).val = r
  · rw [if_pos h, if_pos h.symm, Finset.card_insert_of_notMem]
    simp
  · rw [if_neg h, if_neg (fun e => h e.symm)]

/-- The running counts as the kernel holds them before row j. -/
def seenAt (c : Dev nD) (j : ℕ) : S32.Idx → Elt F .i32 := fun x => BitVec.ofNat 32 (seen P c j (x 0).val)

/-- The running counts begin at zero, -/
theorem seenAt_zero (c : Dev nD) : seenAt P c 0 = fun _ => (0#32 : BitVec 32) := by
  funext x
  simp [seenAt, seen]

/-- and adding one to the word of row j's rank is the next count. -/
theorem seenAt_succ (c : Dev nD) (j : ℕ) (off : Fin 1 → ℕ) (inb : ∀ a, off a + S1.size a ≤ S32.size a) (h : off 0 = (P.dst c j).val)
    (w : BitVec 32) (hw : w = BitVec.ofNat 32 (seen P c j (P.dst c j).val)) :
    ((Memref.whole cc1_scratch0).access (Rect.unit (s := S32) off S1.size inb)).write (Elt F) (seenAt P c j) (fun _ => Scalar.addi w 1#32) Finset.univ
      = seenAt P c (j + 1) := by
  funext z
  refine (write_seen (F := F) _ inb _ z).trans ?_
  unfold seenAt
  rw [seen_succ, h]
  by_cases hz : (z 0).val = (P.dst c j).val
  · rw [if_pos hz, if_pos hz, hw, hz]
    show BitVec.ofNat 32 _ + BitVec.ofNat 32 1 = _
    rw [← BitVec.ofNat_add]
  · rw [if_neg hz, if_neg hz]

/-! ## The side conditions -/

/-- The running count that is read is the one at the destination, -/
theorem off3_eq (v : BitVec 32) : k1_off3 v 0 = v.toNat := rfl

/-- and the device that is sent to is the destination. -/
theorem dev2_eq (v : BitVec 32) : k1_dev2 v = v.toNat := by
  unfold k1_dev2
  show (0#32 + v * 1#32).toNat = v.toNat
  simp

/-- A small destination is in range. -/
theorem chk1 {v : BitVec 32} (h : v.toNat < 32) : k1_chk1 v := by
  refine ⟨?_, by rw [dev2_eq]; exact h⟩
  intro a
  have ha : a = (0 : Fin 1) := Subsingleton.elim (α := Fin 1) _ _
  subst ha
  show v.toNat + 1 ≤ 32
  omega

/-- The row written is the sum of the offset and the running count. -/
theorem off4_eq (v w : BitVec 32) {p : ℕ} (h : v.toNat + w.toNat = p) (hp : p < 512) : k1_off4 v w = ![p, 0, 0] := by
  have e : (Scalar.addi v w).toNat = p := by
    show (v + w).toNat = p
    rw [BitVec.toNat_add, h]
    omega
  show ![(Scalar.addi v w).toNat, 0, 0] = _
  rw [e]

/-- It is in range where the sum is below 512. -/
theorem chk2 (v w : BitVec 32) {p : ℕ} (h : v.toNat + w.toNat = p) (hp : p < 512) : k1_chk2 v w := by
  have ho := off4_eq v w h hp
  unfold k1_chk2
  rw [ho]
  refine ⟨?_, ?_⟩
  · intro a
    match a with
    | 0 => show p + 1 ≤ 512; omega
    | 1 => exact le_refl 1
    | 2 => exact le_refl 256
  · intro hinb
    exact Or.inr ⟨by decide, rfl, rfl, rfl⟩

/-- Whether a trip waits is whether 32 sends are already on their way. -/
theorem waits_iff (t : Fin k1_t3_loop.trips) :
    Scalar.cmpi .ne (Scalar.extui (Scalar.cmpi .sge (Scf.iv 0#32 1#32 t) 32#32) : BitVec 32) 0#32 = 1#1 ↔ 32 ≤ t.val := by
  revert t
  decide +kernel

end Cert.Proof.Talk
-- ==== Proof.Trip.lean ====
/- One trip of the second call's loop of sends, and the loop. -/
module

public import proofs.«01_k».proof.Proof.Words

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Plan F) (κ : GSem nD τ sig → ℕ)

/-- The row of its destination in which device c's row j is to land, with what it may hold and that the destination's
    receive cell is open. -/
abbrev land (c : Dev nD) (j : ℕ) : sProp 𝕄 :=
  iprop((∃ f, dstRow (P.dst c j) (P.pos c j) f) ∗ reached ER (cell .recv1 (P.dst c j)) 0)

/-- One of the sends of the rows. -/
theorem send1_step {c dst : Dev nD} {j : ℕ} (hj : j < 512) (hd : dst = P.dst c j)
    {off off' : Fin 3 → ℕ} (h : off = ![j, 0, 0]) (h' : off' = ![P.pos c j, 0, 0])
    (inb : ∀ a, off a + S1x1x256.size a ≤ S512x1x256.size a) (inb' : ∀ a, off' a + S1x1x256.size a ≤ S512x1x256.size a)
    {hsc : ((Memref.whole main_v21).slice (Rect.unit (s := S512x1x256) off' S1x1x256.size inb') (fun _ => rfl)).view.ref.isScScratch = false}
    {hsrc : ((Memref.whole main_v20).slice (Rect.unit (s := S512x1x256) off S1x1x256.size inb) (fun _ => rfl)).view.WordExact}
    {hdst : ((Memref.whole main_v21).slice (Rect.unit (s := S512x1x256) off' S1x1x256.size inb') (fun _ => rfl)).view.WordExact}
    {hsem : DmaTarget.Typed (nD := nD) (τ := τ) .hbm (.dma ⟨7, by decide⟩) (.remote (Dev.tc dst) ((Memref.whole main_v21).slice (Rect.unit (s := S512x1x256) off' S1x1x256.size inb') (fun _ => rfl)) (.dma ⟨6, by decide⟩) hsc)}
    (O : CellTallies nD τ sig Unit) {α : Type}
    {K : PUnit → Prog (TpuEff nD τ sig (Elt F) Λ₀ .tc) α} {Q : α → sProp 𝕄} :
    iprop(records P κ ∗ reached ER (cell .send1 c) 0 ∗ OW c (owed P .recv1 c j + O) ∗ tok P .send1 c j ∗ tok P .recv1 c j
        ∗ srcRow c j (P.X c) ∗ land P c j)
      ⊢ iprop((cred (tallyAt (cell .send1 c) () (amt .send1)) ∗ OW c (owed P .recv1 c (j + 1) + O)
          -∗ wp frame (wpE (defs₀ (F := F)) 𝒱₀ c none) Set.univ (K ⟨⟩) Q)
        -∗ wp frame (wpE (defs₀ (F := F)) 𝒱₀ c none) Set.univ
          (.op (.enqueueDma ((Memref.whole main_v20).slice (Rect.unit (s := S512x1x256) off S1x1x256.size inb) (fun _ => rfl))
            (.remote (Dev.tc dst) ((Memref.whole main_v21).slice (Rect.unit (s := S512x1x256) off' S1x1x256.size inb') (fun _ => rfl))
            (.dma ⟨6, by decide⟩) hsc) (.dma ⟨7, by decide⟩) hsrc hdst hsem) K) Q) := by
  subst hd
  have hw : ∀ fd : S512x1x256.Idx → Elt F .bf16, ((((Memref.whole main_v21).slice (Rect.unit (s := S512x1x256) off' S1x1x256.size inb') (fun _ => rfl)).view.loc (P.dst c j : Thread nD τ)
      ↦[((Memref.whole main_v21).slice (Rect.unit (s := S512x1x256) off' S1x1x256.size inb') (fun _ => rfl)).view.set]{fullShare}
        (((Memref.whole main_v21).slice (Rect.unit (s := S512x1x256) off' S1x1x256.size inb') (fun _ => rfl)).view.write (Elt F) fd
          (((Memref.whole main_v20).slice (Rect.unit (s := S512x1x256) off S1x1x256.size inb) (fun _ => rfl)).view.read (Elt F) (P.X c)) Finset.univ)) : sProp 𝕄)
      ⊢ pay P .recv1 (P.dst c j) c j := fun fd => by
    rw [dst_set h']
    exact Entails.of_eq (pointsTo_congr fun e he => row_write P hj h h' _ _ _ e he)
  have hN : ((Memref.whole main_v21).slice (Rect.unit (s := S512x1x256) off' S1x1x256.size inb') (fun _ => rfl)).view.dmaCredit = amt .recv1 := rfl
  have hv : ((((Memref.whole main_v20).slice (Rect.unit (s := S512x1x256) off S1x1x256.size inb) (fun _ => rfl)).view.loc (c : Thread nD τ)
        ↦[((Memref.whole main_v20).slice (Rect.unit (s := S512x1x256) off S1x1x256.size inb) (fun _ => rfl)).view.set]{fullShare} P.X c) : sProp 𝕄)
      = pay P .send1 c c j := by
    rw [src_set h]; rfl
  have hs := fun fd => send_step P κ (ks := .send1) (kr := .recv1) (sS := ⟨6, by decide⟩) (sR := ⟨7, by decide⟩) (c := c) (dst := P.dst c j) (j := j) rfl rfl hj hj rfl rfl
     (srcM := (Memref.whole main_v20).slice (Rect.unit (s := S512x1x256) off S1x1x256.size inb) (fun _ => rfl))
     (dstM := (Memref.whole main_v21).slice (Rect.unit (s := S512x1x256) off' S1x1x256.size inb') (fun _ => rfl)) (hsc := hsc) (hsrc := hsrc) (hdst := hdst) (hsem := hsem)
     fullShare (P.X c) fd hN rfl (Entails.of_eq hv) (hw fd) O (K := K) (Q := Q)
  iintro ⟨#Hrec, #Hrs, HO, Ht, Ht', Hv, ⟨⟨%fd, Hd⟩, Hr⟩⟩
  iapply (hs fd) $$ [HO Ht Ht' Hv Hd Hr]
  isplitr; · iexact Hrec
  isplitl [HO]; · iexact HO
  isplitl [Hv]; · rw [src_set h]; iexact Hv
  isplitl [Hd]; · rw [dst_set h']; iexact Hd
  isplitl [Ht]; · iexact Ht
  isplitr; · iexact Hrs
  isplitl [Ht']; · iexact Ht'
  iexact Hr

/-- The loop's body on the buffers and semaphores the call runs on. -/
abbrev bodyS := k1_t3_body (F := F) (Memref.whole main_v20) (Memref.isWhole_whole _) (Memref.whole cc1_stg0_0) (Memref.isWhole_whole _) (Memref.whole cc1_stg1_0) (Memref.isWhole_whole _)
  (Memref.whole main_v5_1) (Memref.isWhole_whole _) (Memref.whole main_v21) (Memref.isWhole_whole _) (Memref.whole cc1_scratch0) (Memref.isWhole_whole _)
  cc1_scratch1 cc1_scratch2 cc1_scoped0

/-- The destinations A, and the first row B that device c may use of each rank's output. -/
structure Staged (c : Dev nD) (A : S512.Idx → Elt F .i32) (B : S32.Idx → Elt F .i32) : Prop where
  dst : ∀ x : S512.Idx, BitVec.toNat (A x) = (P.dst c (x 0).val).val
  pos : ∀ j, j < 512 → ∀ x : S32.Idx, (x 0).val = (P.dst c j).val → BitVec.toNat (B x) + seen P c j (P.dst c j).val = P.pos c j

/-- What the loop of sends keeps. -/
def inv (c : Dev nD) (A : S512.Idx → Elt F .i32) (B : S32.Idx → Elt F .i32) (O : CellTallies nD τ sig Unit) (j : ℕ) : sProp 𝕄 :=
  iprop(records P κ ∗ reached ER (cell .send1 c) 0 ∗ OW c (owed P .recv1 c j + O) ∗ toks P .send1 c j ∗ toks P .recv1 c j
    ∗ (bigSep (Finset.Ico j 512) fun n => srcRow c n (P.X c)) ∗ (bigSep (Finset.Ico j 512) fun n => land P c n)
    ∗ ((c : Thread nD τ).loc cc1_stg0_0 ↦{fullShare} A) ∗ ((c : Thread nD τ).loc cc1_stg1_0 ↦{fullShare} B)
    ∗ ((c : Thread nD τ).loc cc1_scratch0 ↦{fullShare} seenAt P c j)
    ∗ waitSt P .send1 c (j - 32) ∗ creds .send1 c (min j 32))

/-- The wait for one row's send. -/
abbrev rowWait : TpuEff nD τ sig (Elt F) Λ₀ .tc PUnit :=
  .waitDma2 cc1_scratch1.sem
    ((Memref.whole main_v21).slice (Rect.unit (s := S512x1x256) ![0, 0, 0] S1x1x256.size inb_S512x1x256_S1x1x256_0_0_0) (fun _ => rfl))
    ((Memref.whole main_v20).slice (Rect.unit (s := S512x1x256) ![0, 0, 0] S1x1x256.size inb_S512x1x256_S1x1x256_0_0_0) (fun _ => rfl))
    ((Memref.isWhole_whole _).wordExact_slice rfl _ wordsbf16_S512x1x256_S1x1x256_0_0_0) ((Memref.isWhole_whole _).wordExact_slice rfl _ wordsbf16_S512x1x256_S1x1x256_0_0_0)

/-- A wait for a row is a wait for one row's amount on the sends' semaphore. -/
theorem rowWait_eq (c : Dev nD) (K : PUnit → sProp 𝕄) : wpE (defs₀ (F := F)) 𝒱₀ (c : Thread nD τ) none Set.univ rowWait K
      = waitSpec (c : Thread nD τ) Set.univ (semOf .send1) (amt .send1) K :=
  wpE_waitDma2_eq 𝒱₀ (c : Thread nD τ) none Set.univ K

set_option maxHeartbeats 2000000 in
/-- One trip of the loop of sends. -/
theorem trip (c : Dev nD) {A : S512.Idx → Elt F .i32} {B : S32.Idx → Elt F .i32} (hAB : Staged P c A B)
    {O : CellTallies nD τ sig Unit} (hO : Above 0 O) (t : Fin k1_t3_loop.trips) (acc : Unit) :
    inv P κ c A B O t.val ⊢ wp frame (wpE (defs₀ (F := F)) 𝒱₀ c none) Set.univ (bodyS t acc) fun _ => inv P κ c A B O (t.val + 1) := by
  have hlt : t.val < 512 := lt_of_lt_of_eq t.isLt (by decide)
  unfold bodyS k1_t3_body
  simp only [smemLoad, smemLoadElt_bind, Prog.lift, Prog.bind_op, Prog.bind_ret, Prog.pure_eq_ret]
  conv_lhs => unfold inv toks
  rw [Ico_step (show t.val < num .send1 from hlt), Ico_step (show t.val < num .recv1 from hlt), Ico_step hlt, Ico_step hlt]
  iintro ⟨#Hrec, #Hrs, HO, ⟨Ht, Hts⟩, ⟨Ht', Hts'⟩, ⟨Hv, Hvs⟩, ⟨Hd, Hds⟩, HA, HB, Hs, Hw, Hc⟩
  iapply (wp_smemLoadElt_named 𝒱₀ (c : Thread nD τ) none Set.univ (m := Memref.whole cc1_stg0_0) (S := Finset.univ) (q := fullShare) (f := A)) $$ HA
  iintro HA %v10 %hv10
  have e10 : BitVec.toNat v10 = (P.dst c t.val).val := by
    rw [hv10, read_dst A _ _ (fun a => ⟨t.val, by
      have ha : a = (0 : Fin 1) := Subsingleton.elim (α := Fin 1) _ _
      subst ha; exact hlt⟩) (by rw [k1_off2_eq]; rfl), hAB.dst]
  have hr : (P.dst c t.val).val < 32 := (P.dst c t.val).isLt
  have h1 : k1_chk1 v10 := chk1 (by rw [e10]; exact hr)
  iapply (wp_assume 𝒱₀ (c : Thread nD τ) none Set.univ h1)
  let xr : S32.Idx := fun a => ⟨(P.dst c t.val).val, by
      have ha : a = (0 : Fin 1) := Subsingleton.elim (α := Fin 1) _ _
      subst ha; exact hr⟩
  have hxr : (xr 0).val = k1_off3 v10 0 := e10.symm
  iapply (wp_smemLoadElt_named 𝒱₀ (c : Thread nD τ) none Set.univ (m := Memref.whole cc1_stg1_0) (S := Finset.univ) (q := fullShare) (f := B)) $$ HB
  iintro HB %v12 %hv12
  have e12 : v12 = B xr := by rw [hv12]; exact read_off B _ _ xr hxr
  iapply (wp_smemLoadElt_named 𝒱₀ (c : Thread nD τ) none Set.univ (m := Memref.whole cc1_scratch0) (S := Finset.univ) (q := fullShare) (f := seenAt P c t.val)) $$ Hs
  iintro Hs %v14 %hv14
  have e14 : v14 = BitVec.ofNat 32 (seen P c t.val (P.dst c t.val).val) := by rw [hv14]; exact read_seen _ _ _ xr hxr
  have n14 : BitVec.toNat v14 = seen P c t.val (P.dst c t.val).val := by
    rw [e14, BitVec.toNat_ofNat]
    have := seen_le P c t.val (P.dst c t.val).val
    omega
  have hp : BitVec.toNat v12 + BitVec.toNat v14 = P.pos c t.val := by
    rw [n14, e12]; exact hAB.pos t.val hlt xr rfl
  have hpl := P.pos_lt c t.val hlt
  iapply (wp_assume 𝒱₀ (c : Thread nD τ) none Set.univ (chk2 v12 v14 hp hpl))
  iapply (wp_smemLoadElt_named 𝒱₀ (c : Thread nD τ) none Set.univ (m := Memref.whole cc1_scratch0) (S := Finset.univ) (q := fullShare) (f := seenAt P c t.val)) $$ Hs
  iintro Hs %v17 %hv17
  have e17 : v17 = BitVec.ofNat 32 (seen P c t.val (P.dst c t.val).val) := by rw [hv17]; exact read_seen _ _ _ xr hxr
  iapply (wp_smemLoadElt_named 𝒱₀ (c : Thread nD τ) none Set.univ (m := Memref.whole cc1_scratch0) (S := Finset.univ) (q := fullShare) (f := seenAt P c t.val)) $$ Hs
  iintro Hs %v20 -
  iapply (wp_store 𝒱₀ (c : Thread nD τ) none Set.univ (m := Memref.whole cc1_scratch0) (r := Rect.unit (s := S32) (k1_off3 v10) S1.size (k1_off3_inb v10 h1)) (S := Finset.univ) (f := seenAt P c t.val) (Finset.subset_univ _)) $$ Hs
  iintro Hs
  ihave Hs := (Entails.of_eq (congrArg (fun g => ((c : Thread nD τ).loc cc1_scratch0 ↦{fullShare} g : sProp 𝕄))
    (seenAt_succ (F := F) P c t.val (k1_off3 v10) (k1_off3_inb v10 h1) e10 v17 e17))) $$ Hs
  have hd : (⟨k1_dev2 v10, k1_dev2_lt v10 h1⟩ : Dev nD) = P.dst c t.val := Fin.ext ((dev2_eq v10).trans e10)
  iapply (send1_step P κ hlt hd (k1_off5_eq t) (off4_eq v12 v14 hp hpl) _ _ O) $$ [HO Ht Ht' Hv Hd]
  · isplitr; · iexact Hrec
    isplitr; · iexact Hrs
    isplitl [HO]; · iexact HO
    isplitl [Ht]; · iexact Ht
    isplitl [Ht']; · iexact Ht'
    isplitl [Hv]; · iexact Hv
    iexact Hd
  iintro ⟨Hc', HO⟩
  by_cases hw : 32 ≤ t.val
  · rw [dif_pos ((waits_iff t).2 hw)]
    have hO' : Above (lvK .send1) (owed P .recv1 c (t.val + 1) + O) := (Above.owed P (by decide) c _).add hO
    iapply (wait_step P κ (k := .send1) (c := c) (w := t.val - 32) (by show t.val - 32 < 512; omega) hO'
      (e := rowWait (F := F)) (rowWait_eq c)) $$ [HO Hw Hc']
    · isplitr; · iexact Hrec
      isplitl [HO]; · iexact HO
      isplitl [Hw]; · iexact Hw
      iexact Hc'
    iintro ⟨HO, Hw⟩
    rw [wp_ret]
    imodintro
    unfold inv toks
    rw [show t.val + 1 - 32 = t.val - 32 + 1 by omega, show min (t.val + 1) 32 = min t.val 32 by omega]
    isplitr; · iexact Hrec
    isplitr; · iexact Hrs
    isplitl [HO]; · iexact HO
    isplitl [Hts]; · iexact Hts
    isplitl [Hts']; · iexact Hts'
    isplitl [Hvs]; · iexact Hvs
    isplitl [Hds]; · iexact Hds
    isplitl [HA]; · iexact HA
    isplitl [HB]; · iexact HB
    isplitl [Hs]; · iexact Hs
    isplitl [Hw]; · iexact Hw
    iexact Hc
  · rw [dif_neg (fun h => hw ((waits_iff t).1 h))]
    rw [wp_ret]
    imodintro
    unfold inv toks
    rw [show t.val + 1 - 32 = t.val - 32 by omega, show min (t.val + 1) 32 = min t.val 32 + 1 by omega, creds_succ]
    isplitr; · iexact Hrec
    isplitr; · iexact Hrs
    isplitl [HO]; · iexact HO
    isplitl [Hts]; · iexact Hts
    isplitl [Hts']; · iexact Hts'
    isplitl [Hvs]; · iexact Hvs
    isplitl [Hds]; · iexact Hds
    isplitl [HA]; · iexact HA
    isplitl [HB]; · iexact HB
    isplitl [Hs]; · iexact Hs
    isplitl [Hw]; · iexact Hw
    isplitl [Hc]; · iexact Hc
    iexact Hc'

/-- The loop that sends the rows. -/
theorem send_loop1 (c : Dev nD) {A : S512.Idx → Elt F .i32} {B : S32.Idx → Elt F .i32} (hAB : Staged P c A B)
    {O : CellTallies nD τ sig Unit} (hO : Above 0 O) {β : Type} {kk : Unit → Prog (TpuEff nD τ sig (Elt F) Λ₀ .tc) β} {Q : β → sProp 𝕄} :
    inv P κ c A B O 0
      ⊢ iprop((inv P κ c A B O 512 -∗ wp frame (wpE (defs₀ (F := F)) 𝒱₀ c none) Set.univ (kk ⟨⟩) Q)
        -∗ wp frame (wpE (defs₀ (F := F)) 𝒱₀ c none) Set.univ (Scf.Loop.for k1_t3_loop k1_t3_ok ⟨⟩ bodyS >>= kk) Q) := by
  have ht : Scf.trips k1_t3_loop.lb k1_t3_loop.ub k1_t3_loop.st = 512 := by decide
  have hloop := Scf.wp_for_bind frame (wpE (defs₀ (F := F)) 𝒱₀ (c : Thread nD τ) none) Set.univ k1_t3_loop.lb k1_t3_loop.ub k1_t3_loop.st k1_t3_ok
    (⟨⟩ : Unit) (bodyS (F := F)) (fun j _ => inv P κ c A B O j) (fun t acc => trip P κ c hAB hO t acc) (kk := kk) (Q := Q)
  refine hloop.trans ?_
  iintro Hl Hk
  iapply Hl
  iintro %acc H
  rw [ht]
  iapply Hk
  iexact H

end Cert.Proof.Talk
-- ==== Proof.Body1.lean ====
/- The second call's body, run on any one device: the entry barrier, by which every device lets the others write the rows
   they send it, the loop of sends, the waits for them and for the rows that arrive, and the closing barrier. -/
module

public import proofs.«01_k».proof.Proof.Trip

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Plan F) (κ : GSem nD τ sig → ℕ)

/-! ## What the barriers hand over -/

/-- A family over a disjoint union, part by part. -/
theorem by_parts {I J : Type} [DecidableEq I] [DecidableEq J] (s : Finset J) (t : J → Finset I)
    (h : ∀ a b, a ≠ b → Disjoint (t a) (t b)) (Φ : I → sProp 𝕄) :
    (bigSep (s.biUnion t) Φ : sProp 𝕄) = bigSep s fun a => bigSep (t a) Φ := by
  induction s using Finset.induction_on with
  | empty => rw [Finset.biUnion_empty, bigSep_empty, bigSep_empty]
  | insert a s ha ih =>
    rw [Finset.biUnion_insert, bigSep_insert ha, ← ih, BI.bigSep_union]
    exact (Finset.disjoint_biUnion_right _ _ _).2 fun b hb => h a b fun e => ha (e ▸ hb)

/-- A device's rows by their destinations. -/
theorem rows_by_dst (c : Dev nD) (Φ : ℕ → sProp 𝕄) :
    (bigSep (Finset.Ico 0 512) Φ : sProp 𝕄) = bigSep Finset.univ fun d => bigSep (rowsTo P c d) Φ := by
  rw [← by_parts Finset.univ (rowsTo P c)]
  · congr 1
    ext i
    simp only [Finset.mem_biUnion, Finset.mem_univ, true_and, rowsTo, Finset.mem_filter, Finset.mem_range, Finset.mem_Ico]
    exact ⟨fun h => ⟨P.dst c i, h.2, rfl⟩, fun ⟨_, h, _⟩ => ⟨Nat.zero_le _, h⟩⟩
  · intro d d' h
    refine Finset.disjoint_left.2 fun i hi hi' => h ?_
    exact (Finset.mem_filter.1 hi).2.symm.trans (Finset.mem_filter.1 hi').2

/-- The rows of device d that device c is to fill. -/
abbrev room (c d : Dev nD) : sProp 𝕄 := bigSep (rowsTo P c d) fun i => iprop(∃ f, dstRow d (P.pos c i) f)

/-- What a device receives into, whole, is the room for each device's rows, from its own on. -/
theorem rooms_split (c : Dev nD) (f : S512x1x256.Idx → Elt F .bf16) :
    ((c : Thread nD τ).loc main_v21 ↦{fullShare} f : sProp 𝕄) ⊢ iprop(room P c c ∗ bigSep (Finset.Ico 1 32) fun n => room P (peer c n) c) := by
  have hp0 : peer c 0 = c := Fin.ext (by have h : c.val < 32 := c.isLt; show (c.val + 0) % 32 = c.val; omega)
  refine (Entails.of_eq ((dst_split c f).trans ((rows_by_payment P c _).trans ((dut_recv1 P c fun p i => dstRow c (P.pos p i) f).trans
    ((devs_from c _).trans (Ico_step (by decide) _)))))).trans ?_
  rw [hp0]
  refine BI.sep_mono ?_ ?_
  · refine bigSep_mono fun i _ => ?_
    show dstRow c (P.pos c i) f ⊢ iprop(∃ f, dstRow c (P.pos c i) f)
    iintro H; iexists f; iexact H
  · refine bigSep_mono fun n _ => bigSep_mono fun i _ => ?_
    show dstRow c (P.pos (peer c n) i) f ⊢ iprop(∃ f, dstRow c (P.pos (peer c n) i) f)
    iintro H; iexists f; iexact H

/-- To each other device the entry barrier hands the room for its rows. -/
theorem hand_bar1 (c : Dev nD) :
    iprop((records P κ ∗ reached ER (cell .recv1 c) 0 ∗ reached ER (cell .end1 c) 0)
      ∗ bigSep (Finset.Ico 1 32) fun n => room P (peer c n) c) ⊢ bigSep (Finset.Ico 0 (num .bar1)) (hand P .bar1 c) := by
  rw [shift]
  refine bigSep_with_persistent fun i _ => ?_
  show _ ⊢ iprop((room P (peer c (i + 1)) c ∗ reached ER (cell .recv1 c) 0 ∗ reached ER (cell .end1 c) 0) ∗ reached ER (cell .bar1 (peer c (i + 1))) 0)
  iintro ⟨⟨#Hrec, #Hr, #He⟩, H⟩
  isplitl [H]
  · isplitl [H]; · iexact H
    isplitr; · iexact Hr
    iexact He
  iapply (records_bar1 P κ (peer c (i + 1))); iexact Hrec

/-- Room for rows on a device whose receive cell is open lets the rows be sent. -/
theorem room_lands (c d : Dev nD) : iprop(reached ER (cell .recv1 d) 0 ∗ room P c d) ⊢ bigSep (rowsTo P c d) fun i => land P c i := by
  refine bigSep_with_persistent fun i hi => ?_
  have hd : P.dst c i = d := (Finset.mem_filter.1 hi).2
  subst hd
  show iprop(reached ER (cell .recv1 (P.dst c i)) 0 ∗ ∃ f, dstRow (P.dst c i) (P.pos c i) f) ⊢ land P c i
  iintro ⟨#Hr, H⟩
  isplitl [H]; · iexact H
  iexact Hr

/-- What the entry barrier's payments hand to a device: room for what it sends, and what it needs for the closing barrier. -/
theorem got_bar1 (c : Dev nD) : (bigSep (dut P .bar1 c) fun x => pay P .bar1 c x.1 x.2 : sProp 𝕄)
    ⊢ iprop((bigSep (Finset.Ico 1 32) fun n => bigSep (rowsTo P c (peer c n)) fun i => land P c i)
      ∗ bigSep (Finset.Ico 1 32) fun n => reached ER (cell .end1 (peer c n)) 0) := by
  rw [← bigSep_sep']
  refine (Entails.of_eq (dut_bar P (k := .bar1) (Or.inr (Or.inr (Or.inl rfl))) c (fun p => iprop(room P c p ∗ reached ER (cell .recv1 p) 0 ∗ reached ER (cell .end1 p) 0)))).trans ?_
  refine bigSep_mono fun n _ => ?_
  show iprop(room P c (peer c n) ∗ reached ER (cell .recv1 (peer c n)) 0 ∗ reached ER (cell .end1 (peer c n)) 0) ⊢ _
  iintro ⟨H, Hr, He⟩
  isplitr [He]
  · iapply (room_lands P c (peer c n))
    isplitl [Hr]; · iexact Hr
    iexact H
  iexact He

/-- The device's own room and what the others handed over let it send all its rows. -/
theorem all_lands (c : Dev nD) :
    iprop((reached ER (cell .recv1 c) 0 ∗ room P c c) ∗ bigSep (Finset.Ico 1 32) fun n => bigSep (rowsTo P c (peer c n)) fun i => land P c i)
      ⊢ bigSep (Finset.Ico 0 512) fun i => land P c i := by
  have hp0 : peer c 0 = c := Fin.ext (by have h : c.val < 32 := c.isLt; show (c.val + 0) % 32 = c.val; omega)
  refine BIBase.Entails.trans (sep_mono_left (room_lands P c c)) (Entails.of_eq ?_)
  rw [rows_by_dst P c, devs_from c, Ico_step (show 0 < 32 by decide), hp0]

/-- The closing barrier hands nothing over. -/
theorem hand_end1 (c : Dev nD) : (bigSep (Finset.Ico 1 32) fun n => reached ER (cell .end1 (peer c n)) 0 : sProp 𝕄)
    ⊢ bigSep (Finset.Ico 0 (num .end1)) (hand P .end1 c) := by
  rw [shift]
  refine bigSep_mono fun i _ => ?_
  show _ ⊢ iprop(emp ∗ reached ER (cell .end1 (peer c (i + 1))) 0)
  iintro H
  isplitr; · iempintro
  iexact H

/-! ## The body's loops, on the buffers and semaphores that the call runs on -/

/-- One trip of the first barrier's signals, -/
abbrev bodyP (c : Dev nD) := k1_t1_body (F := F) (Memref.whole main_v20) (Memref.isWhole_whole _) (Memref.whole cc1_stg0_0) (Memref.isWhole_whole _) (Memref.whole cc1_stg1_0) (Memref.isWhole_whole _)
  (Memref.whole main_v5_1) (Memref.isWhole_whole _) (Memref.whole main_v21) (Memref.isWhole_whole _) (Memref.whole cc1_scratch0) (Memref.isWhole_whole _)
  cc1_scratch1 cc1_scratch2 cc1_scoped0 c (SemArray.scalar (sig.barrier 1 rfl))
/-- of setting the running counts to zero, -/
abbrev bodyZ := k1_t2_body (F := F) (Memref.whole main_v20) (Memref.isWhole_whole _) (Memref.whole cc1_stg0_0) (Memref.isWhole_whole _) (Memref.whole cc1_stg1_0) (Memref.isWhole_whole _)
  (Memref.whole main_v5_1) (Memref.isWhole_whole _) (Memref.whole main_v21) (Memref.isWhole_whole _) (Memref.whole cc1_scratch0) (Memref.isWhole_whole _)
  cc1_scratch1 cc1_scratch2 cc1_scoped0
/-- of the waits for the last sends, -/
abbrev bodyU := k1_t4_body (F := F) (Memref.whole main_v20) (Memref.isWhole_whole _) (Memref.whole cc1_stg0_0) (Memref.isWhole_whole _) (Memref.whole cc1_stg1_0) (Memref.isWhole_whole _)
  (Memref.whole main_v5_1) (Memref.isWhole_whole _) (Memref.whole main_v21) (Memref.isWhole_whole _) (Memref.whole cc1_scratch0) (Memref.isWhole_whole _)
  cc1_scratch1 cc1_scratch2 cc1_scoped0
/-- of the waits for the arrivals, -/
abbrev bodyV := k1_t5_body (F := F) (Memref.whole main_v20) (Memref.isWhole_whole _) (Memref.whole cc1_stg0_0) (Memref.isWhole_whole _) (Memref.whole cc1_stg1_0) (Memref.isWhole_whole _)
  (Memref.whole main_v5_1) (Memref.isWhole_whole _) (Memref.whole main_v21) (Memref.isWhole_whole _) (Memref.whole cc1_scratch0) (Memref.isWhole_whole _)
  cc1_scratch1 cc1_scratch2 cc1_scoped0
/-- and of the last barrier's signals. -/
abbrev bodyW (c : Dev nD) := k1_t6_body (F := F) (Memref.whole main_v20) (Memref.isWhole_whole _) (Memref.whole cc1_stg0_0) (Memref.isWhole_whole _) (Memref.whole cc1_stg1_0) (Memref.isWhole_whole _)
  (Memref.whole main_v5_1) (Memref.isWhole_whole _) (Memref.whole main_v21) (Memref.isWhole_whole _) (Memref.whole cc1_scratch0) (Memref.isWhole_whole _)
  cc1_scratch1 cc1_scratch2 cc1_scoped0 c

/-- A trip of the first barrier is one signal to the next device in turn. -/
theorem bodyP_eq (c : Dev nD) (t : Fin k1_t1_loop.trips) (acc : Unit) : ∃ dst : Dev nD, dst = tgt P .bar1 c t.val
    ∧ bodyP (F := F) c t acc = .op (.semSignal (Dev.tc dst) ⟨2, by decide⟩ 1) fun _ => .ret ⟨⟩ :=
  ⟨⟨k1_dev1 c t, k1_dev1_lt c t⟩, Fin.ext (k1_dev1_eq c t), rfl⟩

/-- A trip of the last barrier is one signal to the next device in turn. -/
theorem bodyW_eq (c : Dev nD) (t : Fin k1_t6_loop.trips) (acc : BitVec 32) : ∃ dst : Dev nD, dst = tgt P .end1 c t.val
    ∧ bodyW (F := F) c t acc = .op (.semSignal (Dev.tc dst) ⟨3, by decide⟩ 1) fun _ => .ret 0#32 :=
  ⟨⟨k1_dev3 c t, k1_dev3_lt c t⟩, Fin.ext (k1_dev3_eq c t), rfl⟩

/-- A trip of the waits for the last sends is one wait for one row's amount. -/
theorem bodyU_eq (c : Dev nD) (t : Fin k1_t4_loop.trips) (acc : Unit) : ∃ e : TpuEff nD τ sig (Elt F) Λ₀ .tc PUnit,
    (∀ K : PUnit → sProp 𝕄, wpE (defs₀ (F := F)) 𝒱₀ (c : Thread nD τ) none Set.univ e K
      = waitSpec (c : Thread nD τ) Set.univ (semOf .send1) (amt .send1) K) ∧ bodyU (F := F) t acc = .op e fun _ => .ret ⟨⟩ :=
  ⟨rowWait, rowWait_eq c, rfl⟩

/-- A trip of the waits for the arrivals is one wait for one row's amount. -/
theorem bodyV_eq (c : Dev nD) (t : Fin k1_t5_loop.trips) (acc : Unit) : ∃ e : TpuEff nD τ sig (Elt F) Λ₀ .tc PUnit,
    (∀ K : PUnit → sProp 𝕄, wpE (defs₀ (F := F)) 𝒱₀ (c : Thread nD τ) none Set.univ e K
      = waitSpec (c : Thread nD τ) Set.univ (semOf .recv1) (amt .recv1) K) ∧ bodyV (F := F) t acc = .op e fun _ => .ret ⟨⟩ := by
  refine ⟨_, ?_, rfl⟩
  intro K
  exact wpE_waitDma2_eq 𝒱₀ (c : Thread nD τ) none Set.univ K

/-- The loop that sets the running counts to zero. -/
theorem zero_loop (c : Dev nD) (f : S32.Idx → Elt F .i32) {β : Type} {kk : Unit → Prog (TpuEff nD τ sig (Elt F) Λ₀ .tc) β} {Q : β → sProp 𝕄} :
    ((c : Thread nD τ).loc cc1_scratch0 ↦{fullShare} f : sProp 𝕄)
      ⊢ iprop((((c : Thread nD τ).loc cc1_scratch0 ↦{fullShare} fun _ => (0#32 : BitVec 32)) -∗ wp frame (wpE (defs₀ (F := F)) 𝒱₀ c none) Set.univ (kk ⟨⟩) Q)
        -∗ wp frame (wpE (defs₀ (F := F)) 𝒱₀ c none) Set.univ (Scf.Loop.for k1_t2_loop k1_t2_ok ⟨⟩ bodyZ >>= kk) Q) := by
  have ht : Scf.trips k1_t2_loop.lb k1_t2_loop.ub k1_t2_loop.st = 32 := by decide
  have hloop := Scf.wp_for_bind frame (wpE (defs₀ (F := F)) 𝒱₀ (c : Thread nD τ) none) Set.univ k1_t2_loop.lb k1_t2_loop.ub k1_t2_loop.st k1_t2_ok
    (⟨⟩ : Unit) (bodyZ (F := F)) (fun j _ => (iprop(∃ g : S32.Idx → Elt F .i32, ⌜∀ x : S32.Idx, (x 0).val < j → g x = (0#32 : BitVec 32)⌝ ∗ (c : Thread nD τ).loc cc1_scratch0 ↦{fullShare} g) : sProp 𝕄))
    (by
      intro t acc
      unfold bodyZ k1_t2_body
      simp only [smemLoad, smemLoadElt_bind, Prog.lift, Prog.bind_op, Prog.bind_ret, Prog.pure_eq_ret]
      iintro ⟨%g, %hg, Hs⟩
      iapply (wp_smemLoadElt_named 𝒱₀ (c : Thread nD τ) none Set.univ (m := Memref.whole cc1_scratch0) (S := Finset.univ) (q := fullShare) (f := g)) $$ Hs
      iintro Hs %v -
      iapply (wp_store 𝒱₀ (c : Thread nD τ) none Set.univ (m := Memref.whole cc1_scratch0) (r := Rect.unit (s := S32) (k1_off1 t) S1.size (k1_off1_inb t)) (S := Finset.univ) (f := g) (Finset.subset_univ _)) $$ Hs
      iintro Hs
      rw [wp_ret]
      imodintro
      iexists _
      isplitr
      swap
      · iexact Hs
      ipureintro
      intro x hx
      refine (write_seen (F := F) g (k1_off1_inb t) _ x).trans ?_
      have ho : k1_off1 t 0 = t.val := by rw [k1_off1_eq]; rfl
      rw [ho]
      by_cases h : (x 0).val = t.val
      · rw [if_pos h]
      · rw [if_neg h]; exact hg x (by omega)) (kk := kk) (Q := Q)
  refine BIBase.Entails.trans ?_ (hloop.trans ?_)
  · iintro H
    iexists f
    isplitr
    · ipureintro; intro x hx; exact absurd hx (Nat.not_lt_zero _)
    iexact H
  iintro Hl Hk
  iapply Hl
  iintro %acc ⟨%g, %hg, H⟩
  have hz : g = fun _ => (0#32 : BitVec 32) := funext fun x => hg x (by rw [ht]; exact (x 0).isLt)
  rw [hz]
  iapply Hk
  iexact H

/-! ## The body -/

/-- What the second call's body starts from on device c, whose destinations are staged at A and first rows at B: its
    protocol state, what it sends, its other buffers at any contents, and D that it still owes afterwards. -/
def pre1 (c : Dev nD) (D : CellTallies nD τ sig Unit) (A : S512.Idx → Elt F .i32) (B : S32.Idx → Elt F .i32) : sProp 𝕄 :=
  iprop(records P κ ∗ OW c (due1 P c + D)
    ∗ (toks P .bar1 c 0 ∗ toks P .send1 c 0 ∗ toks P .recv1 c 0 ∗ toks P .end1 c 0)
    ∗ (creds .bar1 c 31 ∗ creds .recv1 c 512 ∗ creds .end1 c 31)
    ∗ (atPos ER (cell .bar1 c) 0 ∅ 0 ∗ atPos ER (cell .send1 c) 0 ∅ 0 ∗ atPos ER (cell .recv1 c) 0 ∅ 0 ∗ atPos ER (cell .end1 c) 0 ∅ 0)
    ∗ (reached ER (cell .send1 c) 0 ∗ reached ER (cell .recv1 c) 0 ∗ reached ER (cell .end1 c) 0)
    ∗ ((c : Thread nD τ).loc cc1_stg0_0 ↦{fullShare} A) ∗ ((c : Thread nD τ).loc cc1_stg1_0 ↦{fullShare} B)
    ∗ ((c : Thread nD τ).loc main_v20 ↦{fullShare} P.X c) ∗ (∃ f, (c : Thread nD τ).loc main_v21 ↦{fullShare} f)
    ∗ (∃ f, (c : Thread nD τ).loc cc1_scratch0 ↦{fullShare} f))

/-- What it returns: the rows received, every cell closed. -/
def post1 (c : Dev nD) (D : CellTallies nD τ sig Unit) (A : S512.Idx → Elt F .i32) (B : S32.Idx → Elt F .i32) : sProp 𝕄 :=
  iprop(OW c D
    ∗ (semVal (cell .bar1 c) 0 ∗ semVal (cell .send1 c) 0 ∗ semVal (cell .recv1 c) 0 ∗ semVal (cell .end1 c) 0)
    ∗ ((c : Thread nD τ).loc cc1_stg0_0 ↦{fullShare} A) ∗ ((c : Thread nD τ).loc cc1_stg1_0 ↦{fullShare} B)
    ∗ ((c : Thread nD τ).loc main_v20 ↦{fullShare} P.X c) ∗ ((c : Thread nD τ).loc main_v21 ↦{fullShare} P.Y c)
    ∗ (∃ f, (c : Thread nD τ).loc cc1_scratch0 ↦{fullShare} f))

set_option maxHeartbeats 2000000 in
/-- The second call's body, from what `pre1` holds, ends with what `post1` holds. -/
theorem run1 (c : Dev nD) (D : CellTallies nD τ sig Unit) (hD : Above 6 D) {A : S512.Idx → Elt F .i32} {B : S32.Idx → Elt F .i32}
    (hAB : Staged P c A B) (Kt : PUnit → sProp 𝕄) :
    iprop(pre1 P κ c D A B ∗ (post1 P c D A B -∗ Kt ⟨⟩))
      ⊢ wp frame (wpE (defs₀ (F := F)) 𝒱₀ c none) Set.univ
          (cc1_body (Memref.whole main_v20) (Memref.isWhole_whole _) (Memref.whole cc1_stg0_0) (Memref.isWhole_whole _) (Memref.whole cc1_stg1_0) (Memref.isWhole_whole _)
            (Memref.whole main_v5_1) (Memref.isWhole_whole _) (Memref.whole main_v21) (Memref.isWhole_whole _) (Memref.whole cc1_scratch0) (Memref.isWhole_whole _)
            cc1_scratch1 cc1_scratch2 cc1_scoped0) Kt := by
  simp only [cc1_body_eq_skeleton]; unfold cc1_body_skel
  simp only [semSignalWord, semWaitWord, Prog.lift, Prog.bind_op, Prog.bind_ret, Prog.pure_eq_ret, Prog.bind_assoc, wp_deviceId]
  unfold pre1 due1
  iintro ⟨⟨#Hrec, HO, ⟨Tb, Ts, Tr, Te⟩, ⟨Cb, Cr, Ce⟩, ⟨Ab, As, Ar, Ae⟩, ⟨#Rs, #Rr, #Re⟩, HA, HB, Hx, ⟨%f1, Hy⟩, ⟨%fs, Hsc⟩⟩, Hk⟩
  -- the entry barrier
  ihave Hy := (rooms_split P c f1) $$ Hy
  icases Hy with ⟨Hown, Hy⟩
  iapply (signal_loop P κ (k := .bar1) (sem := ⟨2, by decide⟩) rfl rfl k1_t1_ok (by decide) ⟨⟩ ⟨⟩ (bodyP c) (bodyP_eq P c)
    ((owed P .recv1 c 0 + owed P .end1 c 0) + D)) $$ [HO Tb Hy]
  · isplitr; · iexact Hrec
    isplitl [HO]; · rw [add_assoc]; iexact HO
    isplitl [Tb]; · iexact Tb
    iapply (hand_bar1 P κ c)
    isplitr
    · isplitr; · iexact Hrec
      isplitr; · iexact Rr
      iexact Re
    iexact Hy
  iintro %acc HO
  have hO1 : Above (lvK .bar1) ((owed P .recv1 c 0 + owed P .end1 c 0) + D) :=
    ((Above.owed P (by decide) c 0).add (Above.owed P (by decide) c 0)).add (hD.mono (by decide))
  iapply (wait_all P κ (k := .bar1) hO1 (wpE_semWait_eq 𝒱₀ (c : Thread nD τ) none Set.univ)) $$ [HO Ab Cb]
  · isplitr; · iexact Hrec
    isplitl [HO]; · iexact HO
    isplitl [Ab]; · iexact Ab
    iexact Cb
  iintro ⟨HO, Ab, Hgot⟩
  ihave Hgot := (got_bar1 P c) $$ Hgot
  icases Hgot with ⟨Hland, Hend⟩
  -- the running counts
  iapply (zero_loop c fs) $$ Hsc
  iintro Hsc
  -- the sends
  have hO0 : Above 0 (owed P .end1 c 0 + D) := (Above.owed P (by decide) c 0).add (hD.mono (by decide))
  iapply (send_loop1 P κ c hAB hO0) $$ [HO Ts Tr Hx Hown Hland HA HB Hsc As]
  · unfold inv
    isplitr; · iexact Hrec
    isplitr; · iexact Rs
    isplitl [HO]; · rw [← add_assoc]; iexact HO
    isplitl [Ts]; · iexact Ts
    isplitl [Tr]; · iexact Tr
    isplitl [Hx]; · iapply (Entails.of_eq (src_split c (P.X c))); iexact Hx
    isplitl [Hown Hland]
    · iapply (all_lands P c)
      isplitl [Hown]
      · isplitr; · iexact Rr
        iexact Hown
      iexact Hland
    isplitl [HA]; · iexact HA
    isplitl [HB]; · iexact HB
    isplitl [Hsc]; · rw [seenAt_zero]; iexact Hsc
    isplitl [As]; · iapply (waitSt_zero P .send1 c); iexact As
    rw [show min 0 32 = 0 from rfl, creds_zero]
    iempintro
  iintro H
  unfold inv
  icases H with ⟨-, -, HO, -, -, -, -, HA, HB, Hsc, As, Cs⟩
  rw [show owed P .recv1 c 512 = 0 from owed_end P .recv1 c, zero_add (owed P .end1 c 0 + D)]
  -- the waits
  have hO2 : ∀ k, lvK k < 6 → Above (lvK k) (owed P .end1 c 0 + D) := fun k hk =>
    (Above.owed P (k := .end1) (by show lvK k < 6; exact hk) c 0).add (hD.mono hk.le)
  iapply (wait_loop P κ (k := .send1) (c := c) 480 k1_t4_ok (by decide) ⟨⟩ ⟨⟩ bodyU (bodyU_eq c) (hO2 .send1 (by decide))) $$ [HO As Cs]
  · isplitr; · iexact Hrec
    isplitl [HO]; · iexact HO
    isplitl [As]; · iexact As
    iexact Cs
  iintro %acc2 ⟨HO, As, Hx⟩
  ihave Ar := (waitSt_zero P .recv1 c) $$ Ar
  iapply (wait_loop P κ (k := .recv1) (c := c) 0 k1_t5_ok (by decide) ⟨⟩ ⟨⟩ bodyV (bodyV_eq c) (hO2 .recv1 (by decide))) $$ [HO Ar Cr]
  · isplitr; · iexact Hrec
    isplitl [HO]; · iexact HO
    isplitl [Ar]; · iexact Ar
    iexact Cr
  iintro %acc3 ⟨HO, Ar, Hy⟩
  -- the closing barrier
  iapply (signal_loop P κ (k := .end1) (sem := ⟨3, by decide⟩) rfl rfl k1_t6_ok (by decide) 0#32 0#32 (bodyW c) (bodyW_eq P c) D) $$ [HO Te Hend]
  · isplitr; · iexact Hrec
    isplitl [HO]; · iexact HO
    isplitl [Te]; · iexact Te
    iapply (hand_end1 P c); iexact Hend
  iintro %acc4 HO
  iapply (wait_all P κ (k := .end1) hD (wpE_semWait_eq 𝒱₀ (c : Thread nD τ) none Set.univ)) $$ [HO Ae Ce]
  · isplitr; · iexact Hrec
    isplitl [HO]; · iexact HO
    isplitl [Ae]; · iexact Ae
    iexact Ce
  iintro ⟨HO, Ae, -⟩
  rw [wp_ret]
  imod (close P κ .bar1 c) $$ [Ab] with Zb
  · isplitr; · iexact Hrec
    iexact Ab
  imod (close P κ .send1 c) $$ [As] with Zs
  · isplitr; · iexact Hrec
    iexact As
  imod (close P κ .recv1 c) $$ [Ar] with Zr
  · isplitr; · iexact Hrec
    iexact Ar
  imod (close P κ .end1 c) $$ [Ae] with Ze
  · isplitr; · iexact Hrec
    iexact Ae
  imodintro
  iapply Hk
  unfold post1
  isplitl [HO]; · iexact HO
  isplitl [Zb Zs Zr Ze]
  · isplitl [Zb]; · iexact Zb
    isplitl [Zs]; · iexact Zs
    isplitl [Zr]; · iexact Zr
    iexact Ze
  isplitl [HA]; · iexact HA
  isplitl [HB]; · iexact HB
  isplitl [Hx]
  · iapply (Entails.of_eq ((src_split c (P.X c)).trans (dut_own P (Or.inr (Or.inr rfl)) c (fun x => pay P .send1 c x.1 x.2)).symm).symm)
    iexact Hx
  isplitl [Hy]
  · iapply (Entails.of_eq ((dst_split c (P.Y c)).trans (rows_by_payment P c (fun p => dstRow c p (P.Y c)))).symm)
    iexact Hy
  iexists _; iexact Hsc

end Cert.Proof.Talk
-- ==== Proof.Calls.lean ====
/- The two calls as regions of the program: what each is entered with, what it leaves, and the body of each proved
   against that. -/
module

public import proofs.«01_k».proof.Proof.Body1
public import proofs.«01_k».proof.Proof.Gen.KernelIdeal.Regions

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (P : Plan F)

/-! ## The buffers between the calls -/

/-- Device c's buffers when the first call starts, -/
abbrev W1 (c : Dev nD) : Valuation τ sig (Elt F) := V1 m c
/-- when it has ended, -/
abbrev W2 (c : Dev nD) : Valuation τ sig (Elt F) :=
  Function.update (Function.update (W1 m c) (Proc.devRef .tc main_v5_0) P.cnt) (Proc.devRef .tc main_v5_1) P.gat
/-- when the second call starts, -/
def W3 (c : Dev nD) : Valuation τ sig (Elt F) := StableHlo.after hostOps1 (W2 m P c)
/-- when it has ended, -/
abbrev W4 (c : Dev nD) : Valuation τ sig (Elt F) := Function.update (W3 m P c) (Proc.devRef .tc main_v21) (P.Y c)
/-- and when the program ends. -/
def W5 (c : Dev nD) : Valuation τ sig (Elt F) := StableHlo.after hostOps2 (W4 m P c)

/-- The destinations that device c was given. -/
abbrev given (c : Dev nD) : S512.Idx → Elt F .i32 := m (c, Proc.devRef .tc main_arg1)

/-- The destinations are as given before the first call. -/
theorem W1_arg1 (c : Dev nD) : W1 m c (Proc.devRef .tc main_arg1) = given m c := V1_of m c main_arg1 (by decide)

/-- The first call changes its two results alone. -/
theorem W2_of (c : Dev nD) (r : Ref sig .tc) (h0 : r ≠ main_v5_0) (h1 : r ≠ main_v5_1) : W2 m P c (Proc.devRef .tc r) = W1 m c (Proc.devRef .tc r) := by
  dsimp only [W2]
  rw [Function.update_of_ne (StableHlo.devRef_ne_of_ne h1), Function.update_of_ne (StableHlo.devRef_ne_of_ne h0)]

/-- The operations between the calls change their results alone. -/
theorem W3_of (c : Dev nD) (r : Ref sig .tc) (h : r ∉ hostOps1_W) : W3 m P c (Proc.devRef .tc r) = W2 m P c (Proc.devRef .tc r) :=
  StableHlo.after_of_writes_sub hostOps1 _ hostOps1_writes h

/-- The second call changes its result alone. -/
theorem W4_of (c : Dev nD) (r : Ref sig .tc) (h : r ≠ main_v21) : W4 m P c (Proc.devRef .tc r) = W3 m P c (Proc.devRef .tc r) := by
  dsimp only [W4]
  rw [Function.update_of_ne (StableHlo.devRef_ne_of_ne h)]

/-- The operations after the calls change their results alone. -/
theorem W5_of (c : Dev nD) (r : Ref sig .tc) (h : r ∉ hostOps2_W) : W5 m P c (Proc.devRef .tc r) = W4 m P c (Proc.devRef .tc r) :=
  StableHlo.after_of_writes_sub hostOps2 _ hostOps2_writes h

/-- The destinations are as given before the second call. -/
theorem W3_arg1 (c : Dev nD) : W3 m P c (Proc.devRef .tc main_arg1) = given m c :=
  (W3_of m P c main_arg1 (by decide)).trans <| (W2_of m P c main_arg1 (by decide) (by decide)).trans (W1_arg1 m c)

/-- The row offsets with which device c enters the second call. -/
abbrev offsets (c : Dev nD) : S32.Idx → Elt F .i32 := W3 m P c (Proc.devRef .tc main_v19)

/-- The plan is the one that the given memory calls for. -/
structure Fits : Prop where
  cnt : ∀ c, k0_pay1 (F := F) (given m c) = P.cnt
  gat : ∀ (e : S4096.Idx) (x : S128.Idx), (e 0).val % 128 = (x 0).val → P.gat e = P.cnt x
  staged : ∀ c, Staged P c (given m c) (offsets m P c)
  rows : ∀ c, W3 m P c (Proc.devRef .tc main_v20) = P.X c

/-! ## What the calls are entered with -/

/-- What device c keeps for the first call: the rights to pay, the credit on its own cells, and its own cells, the
    scoped ones unopened. -/
def keep0 (c : Dev nD) : sProp 𝕄 :=
  iprop(∃ κ, records P κ
    ∗ (toks P .bar0 c 0 ∗ toks P .copy c 0 ∗ toks P .send0 c 0 ∗ toks P .recv0 c 0 ∗ toks P .end0 c 0)
    ∗ (creds .bar0 c 31 ∗ creds .recv0 c 32 ∗ creds .end0 c 31)
    ∗ atPos ER (cell .bar0 c) 0 ∅ 0
    ∗ (openTok ER (cell .copy c) ∗ openTok ER (cell .send0 c) ∗ openTok ER (cell .recv0 c) ∗ openTok ER (cell .end0 c)))

/-- The same with the scoped cells opened. -/
def have0 (c : Dev nD) : sProp 𝕄 :=
  iprop(∃ κ, records P κ
    ∗ (toks P .bar0 c 0 ∗ toks P .copy c 0 ∗ toks P .send0 c 0 ∗ toks P .recv0 c 0 ∗ toks P .end0 c 0)
    ∗ (creds .bar0 c 31 ∗ creds .recv0 c 32 ∗ creds .end0 c 31)
    ∗ (atPos ER (cell .bar0 c) 0 ∅ 0 ∗ atPos ER (cell .copy c) 0 ∅ 0 ∗ atPos ER (cell .send0 c) 0 ∅ 0
      ∗ atPos ER (cell .recv0 c) 0 ∅ 0 ∗ atPos ER (cell .end0 c) 0 ∅ 0)
    ∗ (reached ER (cell .copy c) 0 ∗ reached ER (cell .send0 c) 0 ∗ reached ER (cell .recv0 c) 0 ∗ reached ER (cell .end0 c) 0))

/-- What device c keeps for the second call. -/
def keep1 (c : Dev nD) : sProp 𝕄 :=
  iprop(∃ κ, records P κ
    ∗ (toks P .bar1 c 0 ∗ toks P .send1 c 0 ∗ toks P .recv1 c 0 ∗ toks P .end1 c 0)
    ∗ (creds .bar1 c 31 ∗ creds .recv1 c 512 ∗ creds .end1 c 31)
    ∗ atPos ER (cell .bar1 c) 0 ∅ 0
    ∗ (openTok ER (cell .send1 c) ∗ openTok ER (cell .recv1 c) ∗ openTok ER (cell .end1 c)))

/-- The same with the scoped cells opened. -/
def have1 (c : Dev nD) : sProp 𝕄 :=
  iprop(∃ κ, records P κ
    ∗ (toks P .bar1 c 0 ∗ toks P .send1 c 0 ∗ toks P .recv1 c 0 ∗ toks P .end1 c 0)
    ∗ (creds .bar1 c 31 ∗ creds .recv1 c 512 ∗ creds .end1 c 31)
    ∗ (atPos ER (cell .bar1 c) 0 ∅ 0 ∗ atPos ER (cell .send1 c) 0 ∅ 0 ∗ atPos ER (cell .recv1 c) 0 ∅ 0 ∗ atPos ER (cell .end1 c) 0 ∅ 0)
    ∗ (reached ER (cell .send1 c) 0 ∗ reached ER (cell .recv1 c) 0 ∗ reached ER (cell .end1 c) 0))

/-- The semaphores a call allocates for itself. -/
abbrev own0 : Fin 4 → SemLoc sig := fun k => semOf ((fun | 0 => .copy | 1 => .send0 | 2 => .recv0 | 3 => .end0 : Fin 4 → Kd) k)
/-- The same of the second call. -/
abbrev own1 : Fin 3 → SemLoc sig := fun k => semOf ((fun | 0 => .send1 | 1 => .recv1 | 2 => .end1 : Fin 3 → Kd) k)

/-- They are semaphores of the first call, -/
theorem own0_facts : Pipeline.OwnSemFacts spec0 own0 := by decide
/-- and these of the second. -/
theorem own1_facts : Pipeline.OwnSemFacts spec1 own1 := by decide

/-- They stand at zero one by one in the first call, -/
theorem own0_eq (c : Dev nD) : (Pipeline.ownSems0 own0 c : sProp 𝕄)
    = iprop(semVal (cell .copy c) 0 ∗ semVal (cell .send0 c) 0 ∗ semVal (cell .recv0 c) 0 ∗ semVal (cell .end0 c) 0) :=
  bigSep_univ_eq_bigSepL [(0 : Fin 4), 1, 2, 3] (by decide) (by decide) (fun k : Fin 4 => (semVal ((c : Thread nD τ), own0 k) 0 : sProp 𝕄))
/-- and in the second. -/
theorem own1_eq (c : Dev nD) : (Pipeline.ownSems0 own1 c : sProp 𝕄)
    = iprop(semVal (cell .send1 c) 0 ∗ semVal (cell .recv1 c) 0 ∗ semVal (cell .end1 c) 0) :=
  bigSep_univ_eq_bigSepL [(0 : Fin 3), 1, 2] (by decide) (by decide) (fun k : Fin 3 => (semVal ((c : Thread nD τ), own1 k) 0 : sProp 𝕄))

/-- A scoped cell is opened with its counter. -/
theorem open_cell (κ : GSem nD τ sig → ℕ) (k : Kd) (c : Dev nD) :
    iprop(records P κ ∗ openTok ER (cell k c) ∗ semVal (cell k c) 0)
      ⊢ (|={Set.univ}=> (atPos ER (cell k c) 0 ∅ 0 ∗ reached ER (cell k c) 0) : sProp 𝕄) :=
  (sep_mono_left (records_inv P κ k c)).trans (Rounds.cell_open ER (rd P) (g := cell k c) (Set.mem_univ _))

/-- What is kept for the first call, its scoped cells opened with their counters. -/
theorem open0 (c : Dev nD) : iprop(keep0 P c ∗ Pipeline.ownSems0 own0 c ∗ levAts L lv) ⊢ (|={Set.univ}=> have0 P c : sProp 𝕄) := by
  rw [own0_eq]
  unfold keep0 have0
  iintro ⟨⟨%κ, #Hrec, Ht, Hc, Ab, ⟨Oc, Os, Or, Oe⟩⟩, ⟨Sc, Ss, Sr, Se⟩, -⟩
  imod (open_cell P κ .copy c) $$ [Oc Sc] with ⟨Ac, #Rc⟩
  · isplitr; · iexact Hrec
    isplitl [Oc] <;> iassumption
  imod (open_cell P κ .send0 c) $$ [Os Ss] with ⟨As, #Rs⟩
  · isplitr; · iexact Hrec
    isplitl [Os] <;> iassumption
  imod (open_cell P κ .recv0 c) $$ [Or Sr] with ⟨Ar, #Rr⟩
  · isplitr; · iexact Hrec
    isplitl [Or] <;> iassumption
  imod (open_cell P κ .end0 c) $$ [Oe Se] with ⟨Ae, #Re⟩
  · isplitr; · iexact Hrec
    isplitl [Oe] <;> iassumption
  imodintro
  iexists κ
  isplitr; · iexact Hrec
  isplitl [Ht]; · iexact Ht
  isplitl [Hc]; · iexact Hc
  isplitl [Ab Ac As Ar Ae]
  · isplitl [Ab]; · iexact Ab
    isplitl [Ac]; · iexact Ac
    isplitl [As]; · iexact As
    isplitl [Ar] <;> iassumption
  isplitr; · iexact Rc
  isplitr; · iexact Rs
  isplitr; · iexact Rr
  iexact Re

/-- What is kept for the second call, its scoped cells opened with their counters. -/
theorem open1 (c : Dev nD) : iprop(keep1 P c ∗ Pipeline.ownSems0 own1 c ∗ levAts L lv) ⊢ (|={Set.univ}=> have1 P c : sProp 𝕄) := by
  rw [own1_eq]
  unfold keep1 have1
  iintro ⟨⟨%κ, #Hrec, Ht, Hc, Ab, ⟨Os, Or, Oe⟩⟩, ⟨Ss, Sr, Se⟩, -⟩
  imod (open_cell P κ .send1 c) $$ [Os Ss] with ⟨As, #Rs⟩
  · isplitr; · iexact Hrec
    isplitl [Os] <;> iassumption
  imod (open_cell P κ .recv1 c) $$ [Or Sr] with ⟨Ar, #Rr⟩
  · isplitr; · iexact Hrec
    isplitl [Or] <;> iassumption
  imod (open_cell P κ .end1 c) $$ [Oe Se] with ⟨Ae, #Re⟩
  · isplitr; · iexact Hrec
    isplitl [Oe] <;> iassumption
  imodintro
  iexists κ
  isplitr; · iexact Hrec
  isplitl [Ht]; · iexact Ht
  isplitl [Hc]; · iexact Hc
  isplitl [Ab As Ar Ae]
  · isplitl [Ab]; · iexact Ab
    isplitl [As]; · iexact As
    isplitl [Ar] <;> iassumption
  isplitr; · iexact Rs
  isplitr; · iexact Rr
  iexact Re

/-! ## The buffers each call addresses itself -/

/-- Those of the first call, -/
abbrev hbm0 : Finset (DevRef τ sig) := {Proc.devRef .tc main_v5_0, Proc.devRef .tc main_v5_1}
/-- and of the second. -/
abbrev hbm1 : Finset (DevRef τ sig) := {Proc.devRef .tc main_v20, Proc.devRef .tc main_v21}

/-- The first call's two buffers, one by one, -/
theorem hbm0_eq (c : Dev nD) (W : Valuation τ sig (Elt F)) : (StableHlo.held (c : Thread nD τ) hbm0 W : sProp 𝕄)
    = iprop(((c : Thread nD τ).loc main_v5_0 ↦{fullShare} W (Proc.devRef .tc main_v5_0)) ∗ ((c : Thread nD τ).loc main_v5_1 ↦{fullShare} W (Proc.devRef .tc main_v5_1))) := by
  unfold StableHlo.held
  rw [bigSep_eq_bigSepL_of_eq [Proc.devRef .tc main_v5_0, Proc.devRef .tc main_v5_1] (by decide) (by decide)]
  rfl

/-- and the second's. -/
theorem hbm1_eq (c : Dev nD) (W : Valuation τ sig (Elt F)) : (StableHlo.held (c : Thread nD τ) hbm1 W : sProp 𝕄)
    = iprop(((c : Thread nD τ).loc main_v20 ↦{fullShare} W (Proc.devRef .tc main_v20)) ∗ ((c : Thread nD τ).loc main_v21 ↦{fullShare} W (Proc.devRef .tc main_v21))) := by
  unfold StableHlo.held
  rw [bigSep_eq_bigSepL_of_eq [Proc.devRef .tc main_v20, Proc.devRef .tc main_v21] (by decide) (by decide)]
  rfl

/-- The buffers other than the first call's windows', -/
abbrev rest0 : Finset (DevRef τ sig) := Pipeline.ucRefs τ sig \ Pipeline.arrRefs (τ := τ) spec0
/-- and than the second's. -/
abbrev rest1 : Finset (DevRef τ sig) := Pipeline.ucRefs τ sig \ Pipeline.arrRefs (τ := τ) spec1

/-- The first call's own buffers are among these, -/
theorem hbm0_sub : hbm0 ⊆ rest0 := by decide
/-- and the second's. -/
theorem hbm1_sub : hbm1 ⊆ rest1 := by decide

/-! ## The proof data of the calls -/

/-- The first call: owes `due0` and `due1` before its one point, `due1` after it. -/
def dat0 (c : Dev nD) : Dat τ (Elt F) Unit ℕ UU ℕ cfg0 c where
  A w := W1 m c (Proc.devRef .tc (Pipeline.arrRef spec0 w))
  after w := match w with | 0 => fun _ => given m c
  Φ t := if t.val = 0 then
      iprop(Pipeline.scopedRest spec0 c ∗ (∃ r, prngReg c r) ∗ StableHlo.held (c : Thread nD τ) hbm0 (W1 m c) ∗ have0 P c)
    else iprop(Pipeline.scopedRest spec0 c ∗ (∃ r, prngReg c r) ∗ StableHlo.held (c : Thread nD τ) hbm0 (W2 m P c) ∗ Pipeline.ownSems0 own0 c ∗ semVal (cell .bar0 c) 0)
  q _ := fullShare
  owed t := if t.val = 0 then due1 P c + due0 P c else due1 P c

/-- The second call: owes `due1` before its one point, nothing after it. -/
def dat1 (c : Dev nD) : Dat τ (Elt F) Unit ℕ UU ℕ cfg1 c where
  A w := W3 m P c (Proc.devRef .tc (Pipeline.arrRef spec1 w))
  after w := match w with | 0 => fun _ => given m c | 1 => fun _ => offsets m P c
  Φ t := if t.val = 0 then
      iprop(Pipeline.scopedRest spec1 c ∗ (∃ r, prngReg c r) ∗ StableHlo.held (c : Thread nD τ) hbm1 (W3 m P c) ∗ have1 P c)
    else iprop(Pipeline.scopedRest spec1 c ∗ (∃ r, prngReg c r) ∗ StableHlo.held (c : Thread nD τ) hbm1 (W4 m P c) ∗ Pipeline.ownSems0 own1 c ∗ semVal (cell .bar1 c) 0)
  q _ := fullShare
  owed t := if t.val = 0 then 0 + due1 P c else 0

/-- The block that the whole window's one transfer moves is the array. -/
theorem blk0_read (X : S512.Idx → Elt F .i32) (t : Fin grid0.N) (d) :
    win0_0.fill (grid0.coords t) d ((win0_0.blk t).view.read (Elt F) X) = X := by
  funext x
  unfold Pipeline.Window.fill
  rw [dif_pos ((win0_0.moved_iff _ _).mpr fun a => (x a).isLt), View.read_apply]
  refine congrArg X (funext fun a => Fin.ext ?_)
  show ((win0_0.rect t).emb (fun a => ⟨(x a).val, (x a).isLt⟩) a).val = (x a).val
  rw [Rect.emb_apply]
  show 0 * _ + 1 * (x a).val = (x a).val
  rw [Nat.zero_mul, Nat.zero_add, Nat.one_mul]

/-- The block that the whole window's one transfer moves is the array. -/
theorem blk1_0_read (X : S512.Idx → Elt F .i32) (t : Fin grid1.N) (d) :
    win1_0.fill (grid1.coords t) d ((win1_0.blk t).view.read (Elt F) X) = X := by
  funext x
  unfold Pipeline.Window.fill
  rw [dif_pos ((win1_0.moved_iff _ _).mpr fun a => (x a).isLt), View.read_apply]
  refine congrArg X (funext fun a => Fin.ext ?_)
  show ((win1_0.rect t).emb (fun a => ⟨(x a).val, (x a).isLt⟩) a).val = (x a).val
  rw [Rect.emb_apply]
  show 0 * _ + 1 * (x a).val = (x a).val
  rw [Nat.zero_mul, Nat.zero_add, Nat.one_mul]

/-- The block that the whole window's one transfer moves is the array. -/
theorem blk1_1_read (X : S32.Idx → Elt F .i32) (t : Fin grid1.N) (d) :
    win1_1.fill (grid1.coords t) d ((win1_1.blk t).view.read (Elt F) X) = X := by
  funext x
  unfold Pipeline.Window.fill
  rw [dif_pos ((win1_1.moved_iff _ _).mpr fun a => (x a).isLt), View.read_apply]
  refine congrArg X (funext fun a => Fin.ext ?_)
  show ((win1_1.rect t).emb (fun a => ⟨(x a).val, (x a).isLt⟩) a).val = (x a).val
  rw [Rect.emb_apply]
  show 0 * _ + 1 * (x a).val = (x a).val
  rw [Nat.zero_mul, Nat.zero_add, Nat.one_mul]

/-- The first call finds the given destinations staged. -/
theorem found0 (c : Dev nD) (d) : (dat0 m P c).before 0 t0_0 d = given m c := by
  rw [(dat0 m P c).before_fetched 0 t0_0 (fetch0_0 t0_0) d, ← W1_arg1 m c]
  exact blk0_read _ _ _

/-- The second call finds the given destinations staged, -/
theorem found1_0 (c : Dev nD) (d) : (dat1 m P c).before 0 t1_0 d = given m c := by
  rw [(dat1 m P c).before_fetched 0 t1_0 (fetch1_0 t1_0) d, ← W3_arg1 m P c]
  exact blk1_0_read _ _ _

attribute [local irreducible] W3 in
/-- and the offsets. -/
theorem found1_1 (c : Dev nD) (d) : (dat1 m P c).before 1 t1_0 d = offsets m P c := by
  rw [(dat1 m P c).before_fetched 1 t1_0 (fetch1_1 t1_0) d]
  exact blk1_1_read _ _ _

end Cert.Proof.Talk
-- ==== Proof.Regs.lean ====
/- The body of each call, proved against what the call is entered with and what it leaves; and the two calls as regions
   of the program. -/
module

public import proofs.«01_k».proof.Proof.Calls

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (P : Plan F)

/-! ## The bodies -/

/-- What a call's point owes, stated with and without the bound on the waits recorded, which is none. -/
theorem owing_out {cfg : Pipeline.Cfg sig Λ₀} {c : Dev nD} (d : Dat τ (Elt F) Unit ℕ UU ℕ cfg c) (t : Fin (cfg.N + 1))
    {O : CellTallies nD τ sig Unit} (h : d.owed t = O) : (d.owesAt () t : sProp 𝕄) ⊢ OW c O := by
  subst h
  unfold Dat.owesAt Pipeline.owesWithin OW
  iintro ⟨%W, -, H⟩
  iexists W; iexact H

/-- What a device owes, as a call takes it where it is. -/
theorem owing_in {cfg : Pipeline.Cfg sig Λ₀} {c : Dev nD} (d : Dat τ (Elt F) Unit ℕ UU ℕ cfg c) (t : Fin (cfg.N + 1))
    {O : CellTallies nD τ sig Unit} (h : d.owed t = O) (hr : d.recorded t = Set.univ) : (OW c O : sProp 𝕄) ⊢ d.owesAt () t := by
  subst h
  unfold Dat.owesAt Pipeline.owesWithin Dat.bound OW
  rw [hr]
  iintro ⟨%W, H⟩
  iexists W
  isplitr; · ipureintro; exact fun _ _ => Or.inl trivial
  iexact H

/-- What the second call owes lies above level 3, -/
theorem above_due1 (c : Dev nD) : Above 3 (due1 P c) :=
  .add (Above.owed P (by decide) _ _) (.add (Above.owed P (by decide) _ _) (Above.owed P (by decide) _ _))

set_option maxHeartbeats 1000000 in
/-- The first call's body does what its data say. -/
theorem body0 (hP : Fits m P) (c : Dev nD) : BodyObligation (dat0 m P c) (defs₀ (F := F)) 𝒱₀ () Set.univ := fun t => by
  obtain rfl := fin_N0 t
  rw [bigSep_W0, bigSep_W0]
  rw [show (dat0 m P c).Φ t0_0.castSucc = iprop(Pipeline.scopedRest spec0 c ∗ (∃ r, prngReg c r) ∗ StableHlo.held (c : Thread nD τ) hbm0 (W1 m c) ∗ have0 P c) from rfl,
    show (dat0 m P c).Φ t0_0.succ = iprop(Pipeline.scopedRest spec0 c ∗ (∃ r, prngReg c r) ∗ StableHlo.held (c : Thread nD τ) hbm0 (W2 m P c) ∗ Pipeline.ownSems0 own0 c ∗ semVal (cell .bar0 c) 0) from rfl]
  rw [scopedRest0_eq, hbm0_eq, hbm0_eq, own0_eq]
  unfold have0
  iintro ⟨⟨⟨⟨%f0, Hf0⟩, Hrest⟩, Hp, ⟨H5, H51⟩, ⟨%κ, Hrec, Ht, Hc, Ha, Hr⟩⟩, HO, ⟨%d, Hst⟩⟩
  ihave HO' := (owing_out (dat0 m P c) t0_0.castSucc (O := due0 P c + due1 P c) (add_comm _ _)) $$ HO
  rw [found0 m P c d]
  ihave Hs := (Entails.of_eq (owns_whole (c : Thread nD τ) cc0_stg0_0 fullShare (given m c))) $$ Hst
  iapply (run0 P κ c (due1 P c) (above_due1 P c) (given m c) (hP.cnt c) hP.gat _)
  isplitl [Hrec HO' Ht Hc Ha Hr Hs H5 H51 Hf0]
  · unfold pre0
    isplitl [Hrec]; · iexact Hrec
    isplitl [HO']; · iexact HO'
    isplitl [Ht]; · iexact Ht
    isplitl [Hc]; · iexact Hc
    isplitl [Ha]; · iexact Ha
    isplitl [Hr]; · iexact Hr
    isplitl [Hs]; · iexact Hs
    isplitl [H5]; · iexists _; iexact H5
    isplitl [H51]; · iexists _; iexact H51
    iexists f0; iexact Hf0
  unfold post0
  iintro ⟨HO, ⟨Hb, Hown⟩, Hs, H5, H51, ⟨%f1, Hf1⟩⟩
  isplitr [HO Hs]
  · isplitl [Hf1 Hrest]
    · isplitl [Hf1]; · iexists f1; iexact Hf1
      iexact Hrest
    isplitl [Hp]; · iexact Hp
    isplitl [H5 H51]
    · isplitl [H5]; · iexact H5
      iexact H51
    isplitl [Hown]; · iexact Hown
    iexact Hb
  isplitl [HO]; · iapply (owing_in (dat0 m P c) t0_0.succ (O := due1 P c) rfl rfl); iexact HO
  iapply (Entails.of_eq (owns_whole (c : Thread nD τ) cc0_stg0_0 fullShare (given m c)).symm); iexact Hs

attribute [local irreducible] W3

set_option maxHeartbeats 1000000 in
/-- The second call's body does what its data say. -/
theorem body1 (hP : Fits m P) (c : Dev nD) : BodyObligation (dat1 m P c) (defs₀ (F := F)) 𝒱₀ () Set.univ := fun t => by
  obtain rfl := fin_N1 t
  rw [bigSep_W1, bigSep_W1]
  rw [show (dat1 m P c).Φ t1_0.castSucc = iprop(Pipeline.scopedRest spec1 c ∗ (∃ r, prngReg c r) ∗ StableHlo.held (c : Thread nD τ) hbm1 (W3 m P c) ∗ have1 P c) from rfl,
    show (dat1 m P c).Φ t1_0.succ = iprop(Pipeline.scopedRest spec1 c ∗ (∃ r, prngReg c r) ∗ StableHlo.held (c : Thread nD τ) hbm1 (W4 m P c) ∗ Pipeline.ownSems0 own1 c ∗ semVal (cell .bar1 c) 0) from rfl]
  rw [scopedRest1_eq, hbm1_eq, hbm1_eq, own1_eq, hP.rows c, W4_of m P c main_v20 (by decide), hP.rows c,
    show W4 m P c (Proc.devRef .tc main_v21) = P.Y c from Function.update_self _ _ _]
  unfold have1
  iintro ⟨⟨⟨Hz, Hz', ⟨%f0, Hf0⟩⟩, Hp, ⟨H20, H21⟩, ⟨%κ, Hrec, Ht, Hc, Ha, Hr⟩⟩, HO, ⟨%d, Hst⟩, ⟨%d', Hst'⟩⟩
  ihave HO' := (owing_out (dat1 m P c) t1_0.castSucc (O := due1 P c + 0) (add_comm _ _)) $$ HO
  rw [found1_0 m P c d, found1_1 m P c d']
  ihave Hs := (Entails.of_eq (owns_whole (c : Thread nD τ) cc1_stg0_0 fullShare (given m c))) $$ Hst
  ihave Hs' := (Entails.of_eq (owns_whole (c : Thread nD τ) cc1_stg1_0 fullShare (offsets m P c))) $$ Hst'
  iapply (run1 P κ c 0 (Above.zero 6) (hP.staged c) _)
  isplitl [Hrec HO' Ht Hc Ha Hr Hs Hs' H20 H21 Hf0]
  · unfold pre1
    isplitl [Hrec]; · iexact Hrec
    isplitl [HO']; · iexact HO'
    isplitl [Ht]; · iexact Ht
    isplitl [Hc]; · iexact Hc
    isplitl [Ha]; · iexact Ha
    isplitl [Hr]; · iexact Hr
    isplitl [Hs]; · iexact Hs
    isplitl [Hs']; · iexact Hs'
    isplitl [H20]; · iexact H20
    isplitl [H21]; · iexists _; iexact H21
    iexists f0; iexact Hf0
  unfold post1
  iintro ⟨HO, ⟨Hb, Hown⟩, Hs, Hs', H20, H21, ⟨%f1, Hf1⟩⟩
  isplitr [HO Hs Hs']
  · isplitl [Hf1 Hz Hz']
    · isplitl [Hz]; · iexact Hz
      isplitl [Hz']; · iexact Hz'
      iexists f1; iexact Hf1
    isplitl [Hp]; · iexact Hp
    isplitl [H20 H21]
    · isplitl [H20]; · iexact H20
      iexact H21
    isplitl [Hown]; · iexact Hown
    iexact Hb
  isplitl [HO]; · iapply (owing_in (dat1 m P c) t1_0.succ (O := 0) rfl rfl); iexact HO
  isplitl [Hs]
  · iapply (Entails.of_eq (owns_whole (c : Thread nD τ) cc1_stg0_0 fullShare (given m c)).symm); iexact Hs
  iapply (Entails.of_eq (owns_whole (c : Thread nD τ) cc1_stg1_0 fullShare (offsets m P c)).symm); iexact Hs'

/-! ## The regions -/

/-- The proof data of both calls. -/
def dats : (p : Fin 2) → (c : Dev nD) → Dat τ (Elt F) Unit ℕ UU ℕ (cfgs p) c
  | 0 => dat0 m P
  | 1 => dat1 m P

/-- and what the first owes above level 0. -/
theorem above_due0 (c : Dev nD) : Above 0 (due0 P c) :=
  .add (Above.owed P (by decide) _ _) (.add (Above.owed P (by decide) _ _) (Above.owed P (by decide) _ _))

/-- The first call's debts lie above the levels of its staging, -/
theorem cut0 : Pipeline.LevelCutOwed (pcfgs (F := F)) adm (dats m P) () L lv 0 (fun _ => 0) where
  hι c w s := by rw [L_tc]; exact Finset.mem_singleton_self _
  hιb c w s := Nat.le_of_eq (by fin_cases w; rfl)
  hD c t g i h := by
    have e : (dats m P 0 c).owed t = if t.val = 0 then due1 P c + due0 P c else due1 P c := rfl
    rw [e] at h
    have ha : Above 0 (due1 P c) := (above_due1 P c).mono (by decide)
    split at h
    · exact (ha.add (above_due0 P c)) g i h
    · exact ha g i h

/-- and so do the second's. -/
theorem cut1 : Pipeline.LevelCutOwed (pcfgs (F := F)) adm (dats m P) () L lv 1 (fun _ => 0) where
  hι c w s := by rw [L_tc]; exact Finset.mem_singleton_self _
  hιb c w s := Nat.le_of_eq (by fin_cases w <;> rfl)
  hD c t g i h := by
    have e : (dats m P 1 c).owed t = if t.val = 0 then 0 + due1 P c else 0 := rfl
    rw [e] at h
    split at h
    · exact (Above.add (Above.zero 0) ((above_due1 P c).mono (by decide))) g i h
    · exact (Above.zero 0) g i h

/-- The first call changes nothing but the two buffers that it returns. -/
theorem W2_rest (c : Dev nD) : ∀ b ∈ rest0 \ hbm0, W2 m P c b = W1 m c b := fun b hb => by
  have h := (Finset.mem_sdiff.mp hb).2
  have h0 : b ≠ Proc.devRef .tc main_v5_0 := fun e => h (by rw [e]; exact Finset.mem_insert_self _ _)
  have h1 : b ≠ Proc.devRef .tc main_v5_1 := fun e => h (by rw [e]; exact Finset.mem_insert_of_mem (Finset.mem_singleton_self _))
  dsimp only [W2]
  rw [Function.update_of_ne h1, Function.update_of_ne h0]

/-- The second call changes nothing but the buffer that it returns. -/
theorem W4_rest (c : Dev nD) : ∀ b ∈ rest1 \ hbm1, W4 m P c b = W3 m P c b := fun b hb => by
  have h := (Finset.mem_sdiff.mp hb).2
  have h1 : b ≠ Proc.devRef .tc main_v21 := fun e => h (by rw [e]; exact Finset.mem_insert_of_mem (Finset.mem_singleton_self _))
  dsimp only [W4]
  rw [Function.update_of_ne h1]

/-- What the first call leaves for the end. -/
abbrev shut0 (c : Dev nD) : sProp 𝕄 := semVal (cell .bar0 c) 0
/-- What the second call leaves for the end. -/
abbrev shut1 (c : Dev nD) : sProp 𝕄 := semVal (cell .bar1 c) 0

set_option backward.isDefEq.respectTransparency.types false in
/-- The first call as a region. -/
def region0 (hP : Fits m P) : Pipeline.RegionSeg (pcfgs (F := F)) adm (dats m P) () (defs₀ (F := F)) 𝒱₀ L lv 0 :=
  Pipeline.RegionSeg.ofTalk (pcfgs (F := F)) adm (dats m P) () (defs₀ (F := F)) 𝒱₀ L lv 0 own0 own0_facts hbm0 rest0 hbm0_sub
    launch0.toP rfl (fun c => (body0 m P hP c).loose) (due1 P) (due0 P) (fun _ => rfl) (fun _ => rfl) (fun _ => rfl)
    (fun _ w => by fin_cases w; rfl) (W1 m) (W2 m P) (W2_rest m P) (keep0 P) shut0 (have0 P) shut0 (open0 P)
    (fun _ => .rfl) (fun _ => .rfl) (fun _ => by iintro H; imodintro; iexact H) (fun _ => 0) (cut0 m P) (keep1 P)
    (fun c w => by fin_cases w; exact (dat0 m P c).arrAt_in 0 rfl 0)
    (fun c w => by
      fin_cases w
      exact ((dat0 m P c).arrAt_in 0 rfl _).trans (W2_of m P c main_arg1 (by decide) (by decide)).symm)

set_option backward.isDefEq.respectTransparency.types false in
/-- The second call as a region. -/
def region1 (hP : Fits m P) : Pipeline.RegionSeg (pcfgs (F := F)) adm (dats m P) () (defs₀ (F := F)) 𝒱₀ L lv 1 :=
  Pipeline.RegionSeg.ofTalk (pcfgs (F := F)) adm (dats m P) () (defs₀ (F := F)) 𝒱₀ L lv 1 own1 own1_facts hbm1 rest1 hbm1_sub
    launch1.toP rfl (fun c => (body1 m P hP c).loose) (fun _ => 0) (due1 P) (fun _ => rfl) (fun _ => rfl) (fun _ => rfl)
    (fun _ w => by fin_cases w <;> rfl) (W3 m P) (W4 m P) (W4_rest m P) (keep1 P) shut1 (have1 P) shut1 (open1 P)
    (fun _ => .rfl) (fun _ => .rfl) (fun _ => by iintro H; imodintro; iexact H) (fun _ => 0) (cut1 m P) shut0
    (fun c w => by
      fin_cases w
      · exact (dat1 m P c).arrAt_in 0 rfl 0
      · exact (dat1 m P c).arrAt_in 1 rfl 0)
    (fun c w => by
      fin_cases w
      · exact ((dat1 m P c).arrAt_in 0 rfl _).trans (W4_of m P c main_arg1 (by decide)).symm
      · exact ((dat1 m P c).arrAt_in 1 rfl _).trans (W4_of m P c main_v19 (by decide)).symm)

end Cert.Proof.Talk
-- ==== Proof.Start.lean ====
/- The launch: every cell's invariant, the right to each payment with the device that makes it, and the credit of each
   cell with the device that waits on it. -/
module

public import proofs.«01_k».proof.Proof.Regs

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (P : Plan F)

/-! ## Cells and payments -/

/-- The kinds whose semaphores outlive the calls, -/
abbrev liveK : Fin 2 → Kd := fun | 0 => .bar0 | 1 => .bar1
/-- and those that a call allocates. -/
abbrev restK : Fin 7 → Kd := fun | 0 => .copy | 1 => .send0 | 2 => .recv0 | 3 => .end0 | 4 => .send1 | 5 => .recv1 | 6 => .end1

/-- No kind is listed twice, -/
theorem liveK_inj : Function.Injective liveK := by decide
/-- in either list. -/
theorem restK_inj : Function.Injective restK := by decide

/-- The cells of the kinds in a list. -/
def cells {n : ℕ} (f : Fin n → Kd) (hf : Function.Injective f) : Dev nD × Fin n ↪ GSem nD τ sig :=
  ⟨fun x => cell (f x.2) x.1, fun _ _ h => Prod.ext (cell_inj h).2 (hf (cell_inj h).1)⟩

/-- The cells that outlive the calls, -/
abbrev liveCells : Finset (GSem nD τ sig) := Finset.univ.map (cells liveK liveK_inj)
/-- and those that a call allocates. -/
abbrev restCells : Finset (GSem nD τ sig) := Finset.univ.map (cells restK restK_inj)

/-- No cell is of both lists. -/
theorem cells_disjoint : Disjoint liveCells restCells := by
  rw [Finset.disjoint_left]
  intro g h h'
  obtain ⟨x, -, rfl⟩ := Finset.mem_map.mp h
  obtain ⟨y, -, e⟩ := Finset.mem_map.mp h'
  exact (by decide : ∀ a b, restK a ≠ liveK b) y.2 x.2 (cell_inj e).1

/-- Each kind is in one of the lists, -/
theorem kinds_all : ∀ k : Kd, (∃ a, liveK a = k) ∨ ∃ b, restK b = k := by decide

/-- so each cell is. -/
theorem cell_mem (k : Kd) (c : Dev nD) : cell k c ∈ liveCells ∪ restCells := by
  rcases kinds_all k with ⟨a, rfl⟩ | ⟨b, rfl⟩
  · exact Finset.mem_union_left _ (Finset.mem_map_of_mem (cells liveK liveK_inj) (Finset.mem_univ (c, a)))
  · exact Finset.mem_union_right _ (Finset.mem_map_of_mem (cells restK restK_inj) (Finset.mem_univ (c, b)))

/-- The payments that device p makes to cells of kind k. -/
def pays (x : Dev nD × Kd) : Finset (GSem nD τ sig × ℕ × Duty) :=
  (Finset.range (num x.2)).map ⟨fun j => (cell x.2 (tgt P x.2 x.1 j), 0, (x.1, j)), fun _ _ h =>
    congrArg (fun y : GSem nD τ sig × ℕ × Duty => y.2.2.2) h⟩

/-- No payment is listed under two devices or kinds. -/
theorem pays_disjoint (x y : Dev nD × Kd) (h : x ≠ y) : Disjoint (pays P x) (pays P y) := by
  rw [Finset.disjoint_left]
  intro z hx hy
  obtain ⟨j, -, rfl⟩ := Finset.mem_map.mp hx
  obtain ⟨j', -, e⟩ := Finset.mem_map.mp hy
  refine h (Prod.ext ?_ ?_)
  · exact (congrArg (fun y : GSem nD τ sig × ℕ × Duty => y.2.2.1) e).symm
  · exact (cell_inj (congrArg Prod.fst e)).1.symm

/-- All payments. -/
def allPays : Finset (GSem nD τ sig × ℕ × Duty) := Finset.univ.biUnion (pays P)

/-- The rights to the payments, each with the device that makes it. -/
theorem pays_eq : (bigSep (allPays P) fun x => (dutyTok ER x.1 x.2.1 x.2.2 : sProp 𝕄))
    = bigSep Finset.univ fun p : Dev nD => iprop(toks P .bar0 p 0 ∗ toks P .copy p 0 ∗ toks P .send0 p 0 ∗ toks P .recv0 p 0
        ∗ toks P .end0 p 0 ∗ toks P .bar1 p 0 ∗ toks P .send1 p 0 ∗ toks P .recv1 p 0 ∗ toks P .end1 p 0) := by
  unfold allPays
  rw [by_parts _ _ (pays_disjoint P), bigSep_univ_prod]
  refine bigSep_congr fun p _ => ?_
  have e (k : Kd) : (bigSep (pays P (p, k)) fun x => (dutyTok ER x.1 x.2.1 x.2.2 : sProp 𝕄)) = toks P k p 0 := by
    unfold pays toks
    rw [bigSep_map, Finset.range_eq_Ico]
    rfl
  rw [bigSep_congr fun k _ => e k,
    bigSep_univ_eq_bigSepL [Kd.bar0, .copy, .send0, .recv0, .end0, .bar1, .send1, .recv1, .end1] (by decide) (by decide)]
  rfl

/-! ## The credit -/

/-- What all devices owe to a cell at launch for payments of one kind. -/
theorem owed_sum (k k' : Kd) (c : Dev nD) : (∑ d : Dev nD, owed P k' d 0 (cell k c) ()) = if k' = k then num k * amt k else 0 := by
  have e (d : Dev nD) : owed P k' d 0 (cell k c) () = ∑ i ∈ Finset.range (num k'), if k' = k ∧ tgt P k' d i = c then amt k' else 0 := by
    unfold owed
    rw [Finset.sum_apply, Finsupp.finset_sum_apply, Finset.range_eq_Ico]
    refine Finset.sum_congr rfl fun i _ => ?_
    rw [tallyAt_apply]
    refine if_congr ⟨fun h => ?_, fun h => ?_⟩ rfl rfl
    · exact ⟨(cell_inj h.1).1.symm, (cell_inj h.1).2.symm⟩
    · exact ⟨by rw [h.1, ← h.2, h.1], rfl⟩
  rw [Finset.sum_congr rfl fun d _ => e d]
  by_cases hk : k' = k
  · subst hk
    rw [if_pos rfl, ← Finset.sum_product']
    refine Eq.trans ?_ (congrArg (· * amt k') (card_dut P k' c))
    unfold dut
    rw [Finset.card_filter, Finset.sum_mul]
    refine Finset.sum_congr rfl fun x _ => ?_
    by_cases hx : tgt P k' x.1 x.2 = c
    · rw [if_pos ⟨rfl, hx⟩, if_pos hx, Nat.one_mul]
    · rw [if_neg (fun h => hx h.2), if_neg hx, Nat.zero_mul]
  · rw [if_neg hk]
    refine Finset.sum_eq_zero fun d _ => Finset.sum_eq_zero fun i _ => if_neg fun h => hk h.1

/-- What a device owes at launch. -/
abbrev due (c : Dev nD) : CellTallies nD τ sig Unit := due1 P c + due0 P c

/-- The kinds that other devices pay. -/
abbrev farK : Fin 6 → Kd := fun | 0 => .bar0 | 1 => .recv0 | 2 => .end0 | 3 => .bar1 | 4 => .recv1 | 5 => .end1

/-- The credit at launch for a cell that other devices pay is all that they owe it. -/
theorem launch_tally (a : Fin 6) (c : Dev nD) :
    tallyOn (cell (farK a) c) (launchCredit (Pipeline.owing (due P)) 0 (cell (farK a) c))
      = (tallyAt (cell (farK a) c) () (num (farK a) * amt (farK a)) : CellTallies nD τ sig Unit) := by
  unfold tallyAt
  refine congrArg _ (Finsupp.ext fun u => ?_)
  cases u
  rw [Pipeline.launchCredit_owing, Finsupp.single_eq_same]
  have e (d : Dev nD) : due P d (cell (farK a) c) ()
      = (owed P .bar1 d 0 (cell (farK a) c) () + (owed P .recv1 d 0 (cell (farK a) c) () + owed P .end1 d 0 (cell (farK a) c) ()))
        + (owed P .bar0 d 0 (cell (farK a) c) () + (owed P .recv0 d 0 (cell (farK a) c) () + owed P .end0 d 0 (cell (farK a) c) ())) := rfl
  rw [Finset.sum_congr rfl fun d _ => e d]
  simp only [Finset.sum_add_distrib, owed_sum]
  fin_cases a <;> simp [farK]

/-- A device's credits at launch, kind by kind. -/
theorem launch_creds (c : Dev nD) : (Pipeline.launchCred (due P) c : sProp 𝕄)
    ⊢ iprop((creds .bar0 c 31 ∗ creds .recv0 c 32 ∗ creds .end0 c 31) ∗ (creds .bar1 c 31 ∗ creds .recv1 c 512 ∗ creds .end1 c 31)) := by
  have h6 : Function.Injective fun a : Fin 6 => semOf (farK a) := fun _ _ h => (by decide : Function.Injective farK) (semOf_inj h)
  unfold Pipeline.launchCred
  refine (bigSep_subset (Finset.subset_univ (Finset.univ.map ⟨fun a : Fin 6 => semOf (farK a), h6⟩))).trans ?_
  rw [bigSep_map, bigSep_univ_eq_bigSepL [(0 : Fin 6), 1, 2, 3, 4, 5] (by decide) (by decide)]
  have e (a : Fin 6) : (cred (tallyOn (cell (farK a) c) (launchCredit (Pipeline.owing (due P)) 0 (cell (farK a) c))) : sProp 𝕄)
      = creds (farK a) c (num (farK a)) := by rw [launch_tally]; rfl
  let X (a : Fin 6) : sProp 𝕄 := cred (tallyOn (cell (farK a) c) (launchCredit (Pipeline.owing (due P)) 0 (cell (farK a) c)))
  show iprop(X 0 ∗ X 1 ∗ X 2 ∗ X 3 ∗ X 4 ∗ X 5) ⊢ _
  iintro ⟨H0, H1, H2, H3, H4, H5⟩
  ihave H0 := (Entails.of_eq (e 0)) $$ H0
  ihave H1 := (Entails.of_eq (e 1)) $$ H1
  ihave H2 := (Entails.of_eq (e 2)) $$ H2
  ihave H3 := (Entails.of_eq (e 3)) $$ H3
  ihave H4 := (Entails.of_eq (e 4)) $$ H4
  ihave H5 := (Entails.of_eq (e 5)) $$ H5
  isplitl [H0 H1 H2]
  · isplitl [H0]; · iexact H0
    isplitl [H1]; · iexact H1
    iexact H2
  isplitl [H3]; · iexact H3
  isplitl [H4]; · iexact H4
  iexact H5

/-! ## What is dealt -/

/-- The launch element: the staging pipeline's, and the one of this protocol. -/
def u₀ : UU :=
  (initOf (Pipeline.cells (Pipeline.pin (pcfgs (F := F)) adm) cellOf_inj) (Pipeline.launchToks (Pipeline.pin (pcfgs (F := F)) adm) cellOf_inj),
    launchOf liveCells restCells (allPays P))

/-- A resource dealt whole to device 0. -/
def atZero (X : sProp 𝕄) (c : Dev nD) : sProp 𝕄 := if c = 0 then X else iprop(emp)

/-- What is dealt whole to device 0 is all that is dealt. -/
theorem atZero_all (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

/-- The protocol's launch element, dealt to device 0 until all devices can be served at once. -/
def GG : Dev nD → sProp 𝕄 := atZero (BI.own (ER (launchOf liveCells restCells (allPays P))))

/-- What device c takes from the records: its barrier positions, its rights to open, its rights to pay. -/
def mine (c : Dev nD) : sProp 𝕄 :=
  iprop((atPos ER (cell .bar0 c) 0 ∅ 0 ∗ atPos ER (cell .bar1 c) 0 ∅ 0)
    ∗ (openTok ER (cell .copy c) ∗ openTok ER (cell .send0 c) ∗ openTok ER (cell .recv0 c) ∗ openTok ER (cell .end0 c)
      ∗ openTok ER (cell .send1 c) ∗ openTok ER (cell .recv1 c) ∗ openTok ER (cell .end1 c))
    ∗ (toks P .bar0 c 0 ∗ toks P .copy c 0 ∗ toks P .send0 c 0 ∗ toks P .recv0 c 0
        ∗ toks P .end0 c 0 ∗ toks P .bar1 c 0 ∗ toks P .send1 c 0 ∗ toks P .recv1 c 0 ∗ toks P .end1 c 0))

/-- What device c has from its own launch. -/
def own (c : Dev nD) : sProp 𝕄 :=
  iprop(StableHlo.held (c : Thread nD τ) (Pipeline.ucRefs τ sig) (V0 m c)
    ∗ ((creds .bar0 c 31 ∗ creds .recv0 c 32 ∗ creds .end0 c 31) ∗ (creds .bar1 c 31 ∗ creds .recv1 c 512 ∗ creds .end1 c 31))
    ∗ owes (c : Thread nD τ) (due P c) ∅ ∗ ∃ r, prngReg c r)

/-- What rides beside the buffers up to the first call, -/
def E0 (c : Dev nD) : sProp 𝕄 := iprop(keep0 P c ∗ keep1 P c ∗ (∃ r, prngReg c r) ∗ OW c (due P c))
/-- up to the second, -/
def E1 (c : Dev nD) : sProp 𝕄 := iprop(shut0 c ∗ keep1 P c ∗ (∃ r, prngReg c r) ∗ OW c (due1 P c))
/-- and to the end. -/
def E2 (c : Dev nD) : sProp 𝕄 := iprop(shut0 c ∗ shut1 c ∗ OW c 0)

/-- What a device takes from the records and has from its own launch is what it begins with. -/
theorem deal (κ : GSem nD τ sig → ℕ) (c : Dev nD) :
    iprop(records P κ ∗ (mine P c ∗ own m P c)) ⊢ (iprop(StableHlo.held (c : Thread nD τ) (Pipeline.ucRefs τ sig) (V0 m c) ∗ E0 P c) : sProp 𝕄) := by
  unfold mine own E0 keep0 keep1 OW
  iintro ⟨#HR, ⟨⟨A0, A1⟩, ⟨Oc, Os, Or, Oe, Os1, Or1, Oe1⟩, ⟨T1, T2, T3, T4, T5, T6, T7, T8, T9⟩⟩, Hh, ⟨C0, C1⟩, HO, Hp⟩
  isplitl [Hh]; · iexact Hh
  isplitl [A0 Oc Os Or Oe T1 T2 T3 T4 T5 C0]
  · iexists κ
    isplitr; · iexact HR
    isplitl [T1 T2 T3 T4 T5]
    · isplitl [T1]; · iexact T1
      isplitl [T2]; · iexact T2
      isplitl [T3]; · iexact T3
      isplitl [T4]; · iexact T4
      iexact T5
    isplitl [C0]; · iexact C0
    isplitl [A0]; · iexact A0
    isplitl [Oc]; · iexact Oc
    isplitl [Os]; · iexact Os
    isplitl [Or]; · iexact Or
    iexact Oe
  isplitl [A1 Os1 Or1 Oe1 T6 T7 T8 T9 C1]
  · iexists κ
    isplitr; · iexact HR
    isplitl [T6 T7 T8 T9]
    · isplitl [T6]; · iexact T6
      isplitl [T7]; · iexact T7
      isplitl [T8]; · iexact T8
      iexact T9
    isplitl [C1]; · iexact C1
    isplitl [A1]; · iexact A1
    isplitl [Os1]; · iexact Os1
    isplitl [Or1]; · iexact Or1
    iexact Oe1
  isplitl [Hp]; · iexact Hp
  iexists ∅; iexact HO

/-- The semaphores outside the calls are the two barriers'. -/
theorem idle_sems (c : Dev nD) : (unscopedSems0 c : sProp 𝕄) = iprop(semVal (cell .bar0 c) 0 ∗ semVal (cell .bar1 c) 0) := by
  unfold unscopedSems0
  rw [bigSep_eq_bigSepL_of_eq [semOf .bar0, semOf .bar1] (by decide) (by decide)]
  rfl

/-- The cells that outlive the calls, device by device, -/
theorem live_all (Φ : GSem nD τ sig → sProp 𝕄) :
    bigSep liveCells Φ = bigSep Finset.univ fun c : Dev nD => iprop(Φ (cell .bar0 c) ∗ Φ (cell .bar1 c)) := by
  rw [bigSep_map, bigSep_univ_prod]
  exact bigSep_congr fun c _ => BI.bigSep_fin_two _

/-- and the others. -/
theorem rest_all (Φ : GSem nD τ sig → sProp 𝕄) :
    bigSep restCells Φ = bigSep Finset.univ fun c : Dev nD => iprop(Φ (cell .copy c) ∗ Φ (cell .send0 c) ∗ Φ (cell .recv0 c)
      ∗ Φ (cell .end0 c) ∗ Φ (cell .send1 c) ∗ Φ (cell .recv1 c) ∗ Φ (cell .end1 c)) := by
  rw [bigSep_map, bigSep_univ_prod]
  refine bigSep_congr fun c _ => ?_
  rw [bigSep_univ_eq_bigSepL [(0 : Fin 7), 1, 2, 3, 4, 5, 6] (by decide) (by decide)]
  rfl

/-- Every cell's invariant, from those of the two kinds. -/
theorem invs_all (κ : GSem nD τ sig → ℕ) :
    (bigSep (liveCells ∪ restCells) fun g => (cellInv ER (rd P) (κ g) g : sProp 𝕄))
      ⊢ bigSep Finset.univ fun x : Kd × Dev nD => cellInv ER (rd P) (κ (cell x.1 x.2)) (cell x.1 x.2) := by
  have e : (Finset.univ : Finset (Kd × Dev nD)).map ⟨fun x => cell x.1 x.2, fun _ _ h => Prod.ext (cell_inj h).1 (cell_inj h).2⟩
      ⊆ liveCells ∪ restCells := fun g hg => by
    obtain ⟨x, -, rfl⟩ := Finset.mem_map.mp hg
    exact cell_mem x.1 x.2
  refine (bigSep_subset e).trans ?_
  rw [bigSep_map]
  exact BI.Entails.refl _

variable (ρ : Dev nD → PrngReg)

/-- All devices are served at once. -/
theorem start :
    iprop((bigSep Finset.univ fun c : Dev nD => iprop(unscopedBufs c (fun b => m ((c.tc : Thread nD τ).loc b)) ∗ unscopedSems0 c
          ∗ owes (c.tc : Thread nD τ) (due P c) ∅ ∗ Pipeline.launchCred (due P) c ∗ prngReg c (ρ c) ∗ GG P c)) ∗ levAts L lv)
      ⊢ (|={Set.univ}=> bigSep Finset.univ fun c : Dev nD =>
          iprop(StableHlo.held (c : Thread nD τ) (Pipeline.ucRefs τ sig) (V0 m c) ∗ E0 P c) : sProp 𝕄) := by
  have hc (c : Dev nD) : iprop(unscopedBufs c (fun b => m ((c.tc : Thread nD τ).loc b)) ∗ unscopedSems0 c
        ∗ owes (c.tc : Thread nD τ) (due P c) ∅ ∗ Pipeline.launchCred (due P) c ∗ prngReg c (ρ c) ∗ GG P c)
      ⊢ (iprop(own m P c ∗ ((semVal (cell .bar0 c) 0 ∗ semVal (cell .bar1 c) 0) ∗ GG P c)) : sProp 𝕄) := by
    rw [show unscopedBufs c (fun b => m ((c.tc : Thread nD τ).loc b)) = StableHlo.held (c : Thread nD τ) (Pipeline.ucRefs τ sig) (V0 m c) from
      Pipeline.unscopedBufs_held (Ix := Unit) (Name := ℕ) (U := UU) (Lvl := ℕ) c (V0 m c), idle_sems]
    unfold own
    iintro ⟨Hh, Hs, HO, Hc, Hp, HG⟩
    ihave Hc := (launch_creds P c) $$ Hc
    isplitl [Hh HO Hc Hp]
    · isplitl [Hh]; · iexact Hh
      isplitl [Hc]; · iexact Hc
      isplitl [HO]; · iexact HO
      iexists (ρ c); iexact Hp
    isplitl [Hs]; · iexact Hs
    iexact HG
  have hlev : (levAts L lv : sProp 𝕄) ⊢ lvs := by unfold lvs; exact BI.Entails.refl _
  iintro ⟨H, Hlev⟩
  ihave #Hl := hlev $$ Hlev
  ihave H' := (show (bigSep Finset.univ fun c : Dev nD => iprop(unscopedBufs c (fun b => m ((c.tc : Thread nD τ).loc b)) ∗ unscopedSems0 c
          ∗ owes (c.tc : Thread nD τ) (due P c) ∅ ∗ Pipeline.launchCred (due P) c ∗ prngReg c (ρ c) ∗ GG P c))
      ⊢ (bigSep Finset.univ fun c : Dev nD => iprop(own m P c ∗ ((semVal (cell .bar0 c) 0 ∗ semVal (cell .bar1 c) 0) ∗ GG P c)) : sProp 𝕄)
      from bigSep_mono fun c _ => hc c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (GG P) ⊢ BI.own (ER (launchOf liveCells restCells (allPays P))) from
    Entails.of_eq (atZero_all (F := F) (BI.own (ER (launchOf liveCells restCells (allPays P)))))) $$ HG
  ihave Hv := (Entails.of_eq (live_all (F := F) fun g => semVal g 0).symm) $$ Hv
  imod (Rounds.fund_launch ER (rd P) cells_disjoint (fun g _ h => h) (allPays P)) $$ [Hv Hu] with ⟨%κ, -, Hinv, Hr, Hat, Hopen, Htok⟩
  · isplitl [Hv]; · iexact Hv
    iexact Hu
  ihave #Hinv := (invs_all P κ) $$ Hinv
  ihave #Hr := (Entails.of_eq (live_all (F := F) fun g => reached ER g 0)) $$ Hr
  ihave Hat := (Entails.of_eq (live_all (F := F) fun g => atPos ER g 0 ∅ 0)) $$ Hat
  ihave Hopen := (Entails.of_eq (rest_all (F := F) fun g => openTok ER g)) $$ Hopen
  ihave Htok := (Entails.of_eq (pays_eq P)) $$ Htok
  imodintro
  iapply (bigSep_with_persistent (R := records P κ) (Φ := fun c => iprop(mine P c ∗ own m P c)) fun c _ => deal m P κ c)
  isplitr
  · unfold records
    isplitr; · iexact Hinv
    isplitr; · iexact Hr
    iexact Hl
  iapply (Entails.of_eq (bigSep_sep' _ _ _).symm)
  isplitr [HB]
  · unfold mine
    iapply (Entails.of_eq (bigSep_sep' _ _ _).symm); isplitl [Hat]; · iexact Hat
    iapply (Entails.of_eq (bigSep_sep' _ _ _).symm); isplitl [Hopen]; · iexact Hopen
    iexact Htok
  · iexact HB

end Cert.Proof.Talk
-- ==== Proof.Run.lean ====
/- The program's run: from any memory that a plan fits, every execution ends with the arguments as they were, the result
   that the plan names, and every semaphore at zero. -/
module

public import proofs.«01_k».proof.Proof.Start

@[expose] public section

noncomputable section

namespace Cert.Proof.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (P : Plan F)

/-- The buffers before the second call are those after the first, the operations between done. -/
theorem W3_eq (c : Dev nD) : W3 m P c = StableHlo.after hostOps1 (W2 m P c) := rfl
/-- The buffers at the end are those after the second call, the last operations done. -/
theorem W5_eq (c : Dev nD) : W5 m P c = StableHlo.after hostOps2 (W4 m P c) := rfl

attribute [local irreducible] W3 W5

/-! ## The stretches between the calls -/

/-- The operations between the calls, -/
def part1 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m P) (E1 P)

/-- and those after them. -/
def part2 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m P) E2

/-- The program as segments. -/
def parts (hP : Fits m P) (c : Dev nD) : List (Pipeline.Seg (pcfgs (F := F)) adm (dats m P) () (defs₀ (F := F)) 𝒱₀ L lv) :=
  [.host (Gen.seg0 m 𝒱₀ L lv (fun _ => E0 P) c), .region (region0 m P hP), .host (part1 m P), .region (region1 m P hP), .host (part2 m P)]

/-- All the buffers outside the calls, as a call's arrays and the others. -/
theorem held_split0 (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) rest0 W) :=
  StableHlo.held_sub_split (c : Thread nD τ) (Pipeline.arrRefs_sub_ucRefs spec0 (by decide)) W

/-- The same for the second call. -/
theorem held_split1 (c : Dev nD) (W : Valuation τ sig (Elt F)) : (StableHlo.held (c : Thread nD τ) (Pipeline.ucRefs τ sig) W : sProp 𝕄)
    = iprop(StableHlo.held (c : Thread nD τ) (Pipeline.arrRefs (τ := τ) spec1) W ∗ StableHlo.held (c : Thread nD τ) rest1 W) :=
  StableHlo.held_sub_split (c : Thread nD τ) (Pipeline.arrRefs_sub_ucRefs spec1 (by decide)) W

/-- What is held before the first call is what it takes, -/
theorem enter0 (hP : Fits m P) (c : Dev nD) :
    iprop(StableHlo.held (c : Thread nD τ) (Pipeline.ucRefs τ sig) (W1 m c) ∗ E0 P c) ⊢ (region0 m P hP).pre c := by
  show _ ⊢ iprop(StableHlo.held (c : Thread nD τ) (Pipeline.arrRefs (τ := τ) spec0) (W1 m c) ∗ (∃ r, prngReg c r)
    ∗ (StableHlo.held (c : Thread nD τ) rest0 (W1 m c) ∗ keep1 P c) ∗ keep0 P c ∗ OW c (due P c))
  rw [held_split0]
  unfold E0
  iintro ⟨⟨Ha, Hr⟩, K0, K1, Hp, HO⟩
  isplitl [Ha]; · iexact Ha
  isplitl [Hp]; · iexact Hp
  isplitl [Hr K1]
  · isplitl [Hr]; · iexact Hr
    iexact K1
  isplitl [K0]; · iexact K0
  iexact HO

/-- and what it returns is what is held after it. -/
theorem leave0 (hP : Fits m P) (c : Dev nD) :
    (region0 m P hP).post c ⊢ iprop(StableHlo.held (c : Thread nD τ) (Pipeline.ucRefs τ sig) (W2 m P c) ∗ E1 P c) := by
  show iprop(StableHlo.held (c : Thread nD τ) (Pipeline.arrRefs (τ := τ) spec0) (W2 m P c) ∗ (∃ r, prngReg c r)
    ∗ (StableHlo.held (c : Thread nD τ) rest0 (W2 m P c) ∗ keep1 P c) ∗ shut0 c ∗ OW c (due1 P c)) ⊢ _
  rw [held_split0]
  unfold E1
  iintro ⟨Ha, Hp, ⟨Hr, K1⟩, S0, HO⟩
  isplitl [Ha Hr]
  · isplitl [Ha]; · iexact Ha
    iexact Hr
  isplitl [S0]; · iexact S0
  isplitl [K1]; · iexact K1
  isplitl [Hp]; · iexact Hp
  iexact HO

/-- What is held before the second call is what it takes, -/
theorem enter1 (hP : Fits m P) (c : Dev nD) :
    iprop(StableHlo.held (c : Thread nD τ) (Pipeline.ucRefs τ sig) (StableHlo.after hostOps1 (W2 m P c)) ∗ E1 P c) ⊢ (region1 m P hP).pre c := by
  rw [← W3_eq]
  show _ ⊢ iprop(StableHlo.held (c : Thread nD τ) (Pipeline.arrRefs (τ := τ) spec1) (W3 m P c) ∗ (∃ r, prngReg c r)
    ∗ (StableHlo.held (c : Thread nD τ) rest1 (W3 m P c) ∗ shut0 c) ∗ keep1 P c ∗ OW c (0 + due1 P c))
  rw [held_split1, zero_add]
  unfold E1
  iintro ⟨⟨Ha, Hr⟩, S0, K1, Hp, HO⟩
  isplitl [Ha]; · iexact Ha
  isplitl [Hp]; · iexact Hp
  isplitl [Hr S0]
  · isplitl [Hr]; · iexact Hr
    iexact S0
  isplitl [K1]; · iexact K1
  iexact HO

/-- and what it returns is what is held after it. -/
theorem leave1 (hP : Fits m P) (c : Dev nD) :
    (region1 m P hP).post c ⊢ iprop(StableHlo.held (c : Thread nD τ) (Pipeline.ucRefs τ sig) (W4 m P c) ∗ E2 c) := by
  show iprop(StableHlo.held (c : Thread nD τ) (Pipeline.arrRefs (τ := τ) spec1) (W4 m P c) ∗ (∃ r, prngReg c r)
    ∗ (StableHlo.held (c : Thread nD τ) rest1 (W4 m P c) ∗ shut0 c) ∗ shut1 c ∗ OW c 0) ⊢ _
  rw [held_split1]
  unfold E2
  iintro ⟨Ha, -, ⟨Hr, S0⟩, S1, HO⟩
  isplitl [Ha Hr]
  · isplitl [Ha]; · iexact Ha
    iexact Hr
  isplitl [S0]; · iexact S0
  isplitl [S1]; · iexact S1
  iexact HO

/-- What is left at the end. -/
def last (c : Dev nD) : sProp 𝕄 := iprop(StableHlo.held (c : Thread nD τ) (Pipeline.ucRefs τ sig) (W5 m P c) ∗ (shut0 c ∗ shut1 c))

/-- After the last operations nothing is owed. -/
theorem finish (c : Dev nD) : iprop(StableHlo.held (c : Thread nD τ) (Pipeline.ucRefs τ sig) (StableHlo.after hostOps2 (W4 m P c)) ∗ E2 c)
    ⊢ iprop(last m P c ∗ ∃ W, owes (c : Thread nD τ) (0 : CellTallies nD τ sig Unit) W) := by
  rw [← W5_eq]
  unfold E2 last OW
  iintro ⟨Hh, S0, S1, HO⟩
  isplitr [HO]
  · isplitl [Hh]; · iexact Hh
    isplitl [S0]; · iexact S0
    iexact S1
  iexact HO

/-- The semaphores that outlive the calls are the two barriers'. -/
theorem idle_only : ∀ sm : SemLoc sig, sm.isScoped .tc = false → sm = semOf .bar0 ∨ sm = semOf .bar1 := by decide

/-- A buffer that nothing writes ends as it was. -/
theorem W5_arg (c : Dev nD) (r : Ref sig .tc) (h0 : r ∉ hostOps0_W) (h1 : r ∉ hostOps1_W) (h2 : r ∉ hostOps2_W)
    (ha : r ≠ main_v5_0) (hb : r ≠ main_v5_1) (hc : r ≠ main_v21) : W5 m P c (Proc.devRef .tc r) = m (c, Proc.devRef .tc r) :=
  (W5_of m P c r h2).trans <| (W4_of m P c r hc).trans <| (W3_of m P c r h1).trans <| (W2_of m P c r ha hb).trans (V1_of m c r h0)

variable (ρ : Dev nD → PrngReg)

set_option backward.isDefEq.respectTransparency.types false in
/-- The run. -/
theorem run (hP : Fits m P) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v22) = W5 m P c (Proc.devRef .tc main_v22))
    ∧ r.2.sem = fun _ => 0) := by
  refine Pipeline.θ_run_regions_kit_dev_sems (pcfgs (F := F)) adm (dats m P) () cellOf_inj EP defs₀ 𝒱₀ L lv m ρ main
    (parts m P hP)
    (fun c Q => by
      rewrite [main_chain c, Pipeline.Seg.run_eq_chain,
        show (parts m P hP c).map Pipeline.Seg.prog = [
          StableHlo.seq (hostOps0 c),
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [parts, Pipeline.Seg.pipes_host, Pipeline.Seg.pipes_region, Pipeline.Seg.pipes_nil]; decide)
    (due P) L_of_ne (GG P) (u₀ P) ?_
    (fun c : Dev nD => iprop(StableHlo.held (c : Thread nD τ) (Pipeline.ucRefs τ sig) (V0 m c) ∗ E0 P c)) (last m P)
    (fun c => ⟨.rfl, enter0 m P hP c, leave0 m P hP c, enter1 m P hP c, leave1 m P hP c, finish m P c⟩)
    (start m P ρ)
    (fun c s => (s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v22) = W5 m P c (Proc.devRef .tc main_v22))
      ∧ s.sem (cell .bar0 c) = 0 ∧ s.sem (cell .bar1 c) = 0)
    (fun c s' => ?_)
    (fun s h hs => ⟨fun c => (h c).1, sem_eq_zero hs fun c sm hsm => by
      rcases idle_only sm hsm with rfl | rfl
      · exact (h c).2.1
      · exact (h c).2.2⟩)
  · unfold u₀ GG
    iintro Hu
    ihave H := (ownU_pair _ _) $$ Hu
    icases H with ⟨HP, HX⟩
    imodintro
    isplitl [HP]; · iexact HP
    rw [atZero_all]; iexact HX
  · unfold last StableHlo.held
    iintro ⟨⟨Hh, S0, S1⟩, HSI⟩
    icombine HSI S0 gives %h0
    icombine HSI S1 gives %h1
    ihave Hr := (pointsTo_read_all (Pipeline.ucRefs τ sig) (fun b => ((c : Thread nD τ).1, b)) (W5 m P c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans
            (W5_arg m P c main_arg0 (by decide) (by decide) (by decide) (by decide) (by decide) (by decide)),
          (h (Proc.devRef .tc main_arg1) (Finset.mem_filter.mpr ⟨StableHlo.devRef_mem_tcRefs main_arg1, by decide⟩)).trans
            (W5_arg m P c main_arg1 (by decide) (by decide) (by decide) (by decide) (by decide) (by decide)),
          h (Proc.devRef .tc main_v22) (Finset.mem_filter.mpr ⟨StableHlo.devRef_mem_tcRefs main_v22, by decide⟩)⟩,
        by simpa using h0, by simpa using h1⟩
    · iexact HSI

end Cert.Proof.Talk
-- ==== Proof.Count.lean ====
/- Where each row goes when every device sends 16 rows to each: counting, and the stable sort by destination. -/
module

public import proofs.«01_k».proof.Proof.Talk
public import Idealize.ShloMosaic.Lib.SortFacts
public import Idealize.ShloMosaic.Lib.PlanTiles.StableSort

@[expose] public section

noncomputable section

namespace Cert.Proof.Talk

open Idealize.ShloMosaic
open Cert.KernelIdeal

/-! ## Places -/

section Places

variable (d : Dev nD → ℕ → Dev nD)

/-- Every device sends 16 of its 512 rows to each. -/
def Even : Prop := ∀ p r : Dev nD, ((Finset.range 512).filter fun j => d p j = r).card = 16

/-- How many earlier rows of the device go where row j goes. -/
def before (p : Dev nD) (j : ℕ) : ℕ := ((Finset.range j).filter fun i => d p i = d p j).card

/-- The place, among the rows that its receiver gets, of row j of device p. -/
def place (p : Dev nD) (j : ℕ) : ℕ := 16 * p.val + before d p j

variable {d}

/-- Fewer than 16 rows come before a row. -/
theorem before_lt (h : Even d) (p : Dev nD) {j : ℕ} (hj : j < 512) : before d p j < 16 := by
  rw [← h p (d p j)]
  unfold before
  refine Finset.card_lt_card ⟨?_, ?_⟩
  · intro i hi
    rw [Finset.mem_filter, Finset.mem_range] at hi ⊢
    exact ⟨lt_trans hi.1 hj, hi.2⟩
  · intro hs
    have h1 := hs (Finset.mem_filter.2 ⟨Finset.mem_range.2 hj, rfl⟩)
    exact lt_irrefl _ (Finset.mem_range.1 (Finset.mem_filter.1 h1).1)

/-- Of two rows for one receiver the later has more before it. -/
theorem before_mono {p : Dev nD} {j j' : ℕ} (hj : j < j') (hd : d p j = d p j') : before d p j < before d p j' := by
  unfold before
  refine Finset.card_lt_card ⟨?_, ?_⟩
  · intro i hi
    rw [Finset.mem_filter, Finset.mem_range] at hi ⊢
    exact ⟨lt_trans hi.1 hj, hi.2.trans hd⟩
  · intro hs
    have h1 := hs (Finset.mem_filter.2 ⟨Finset.mem_range.2 hj, hd⟩)
    exact lt_irrefl _ (Finset.mem_range.1 (Finset.mem_filter.1 h1).1)

/-- Where destinations are even, a place is one of the 512. -/
theorem place_lt (h : Even d) (p : Dev nD) {j : ℕ} (hj : j < 512) : place d p j < 512 := by
  have h1 := before_lt h p hj
  have h2 : p.val < 32 := p.isLt
  unfold place
  omega

/-- Rows for one receiver are placed by sender, and then as they stand. -/
theorem place_mono (h : Even d) {p p' : Dev nD} {j j' : ℕ} (hj : j < 512) (hd : d p j = d p' j')
    (hlt : p.val < p'.val ∨ (p.val = p'.val ∧ j < j')) : place d p j < place d p' j' := by
  unfold place
  rcases hlt with h1 | ⟨h1, h2⟩
  · have h3 := before_lt h p hj
    omega
  · have hp : p = p' := Fin.ext h1
    subst hp
    have h3 := before_mono h2 hd
    omega

/-- Rows to one device with one place are one row. -/
theorem place_inj (h : Even d) {p p' : Dev nD} {j j' : ℕ} (hj : j < 512) (hj' : j' < 512) (hd : d p j = d p' j')
    (he : place d p j = place d p' j') : p = p' ∧ j = j' := by
  by_contra hne
  have hc : (p.val < p'.val ∨ (p.val = p'.val ∧ j < j')) ∨ (p'.val < p.val ∨ (p'.val = p.val ∧ j' < j)) := by
    by_contra hn
    apply hne
    have h1 : p.val = p'.val := by omega
    have h2 : j = j' := by omega
    exact ⟨Fin.ext h1, h2⟩
  rcases hc with hc | hc
  · exact absurd he (ne_of_lt (place_mono h hj hd hc))
  · exact absurd he.symm (ne_of_lt (place_mono h hj' hd.symm hc))

/-- Every device receives 512 rows. -/
theorem even_bal (h : Even d) (c : Dev nD) :
    ((Finset.univ ×ˢ Finset.range 512).filter fun x : Dev nD × ℕ => d x.1 x.2 = c).card = 512 := by
  rw [Finset.card_filter, Finset.sum_product]
  have h1 : ∀ p : Dev nD, (∑ j ∈ Finset.range 512, if d p j = c then 1 else 0) = 16 := fun p => by
    rw [← Finset.card_filter]
    exact h p c
  rw [Finset.sum_congr rfl fun p _ => h1 p, Finset.sum_const]
  rfl

end Places

/-! ## The stable sort -/

/-- A map that puts the positions in the order of a key, and equal keys in the order in which they stand, says where the
    stable sort by that key puts each position. -/
theorem sortedFrom_place {n : ℕ} (b : Fin n → Fin n → Bool) (key : Fin n → ℕ) (B : ℕ) (hB : ∀ a, key a < B)
    (hb : ∀ a a', b a a' = decide (key a < key a')) (T : Fin n → Fin n)
    (hT : ∀ a a', (key a < key a' ∨ (key a = key a' ∧ a < a')) → T a < T a') (i : Fin n) : sortedFrom b (T i) = i := by
  have e : b = fun x y => decide (B - key y < B - key x) := by
    funext x y
    rw [hb]
    have h1 := hB x
    have h2 := hB y
    by_cases h : key x < key y
    · rw [decide_eq_true h, decide_eq_true (by omega)]
    · rw [decide_eq_false h, decide_eq_false (by omega)]
  have hp : (sortPositions n b).Pairwise (PlanTiles.Lex (fun a => B - key a) (· < ·)) := by
    rw [e]
    exact PlanTiles.pairwise_stableSort_lex (fun a : Fin n => B - key a) (· < ·) (List.finRange n) (List.pairwise_lt_finRange n)
  have hm : StrictMono fun k => T (sortedFrom b k) := by
    intro k k' hk
    have hq := List.pairwise_iff_get.mp hp (k.cast (length_sortPositions n b).symm) (k'.cast (length_sortPositions n b).symm) hk
    apply hT
    have h1 := hB (sortedFrom b k)
    have h2 := hB (sortedFrom b k')
    have hq' : B - key (sortedFrom b k') < B - key (sortedFrom b k)
        ∨ (B - key (sortedFrom b k) = B - key (sortedFrom b k') ∧ sortedFrom b k < sortedFrom b k') := hq
    rcases hq' with h | ⟨h, h3⟩
    · left; omega
    · right; exact ⟨by omega, h3⟩
  obtain ⟨k, rfl⟩ := sortedFrom_surjective b i
  have hk : T (sortedFrom b k) = k := le_antisymm (StrictMono.apply_le hm) (StrictMono.le_apply hm)
  rw [hk]

end Cert.Proof.Talk

end
-- ==== Proof.Given.lean ====
/- What the destinations that the devices are given have to satisfy, and the counts that the first call makes of them. -/
module

public import proofs.«01_k».proof.Defs
public import proofs.«01_k».proof.Proof.Count
public import proofs.«01_k».proof.Proof.Gen.Pre_balanced_Kernel
public import proofs.«01_k».proof.Proof.Gen.KernelIdeal.Skeleton
public import Idealize.ShloMosaic.Lib.IndicatorCount
public import Idealize.ShloMosaic.Lib.ValueIdxCoords
public import Idealize.ShloMosaic.Lib.WordCmp
public import Idealize.ShloMosaic.Lib.Pipeline.Value
public import Idealize.ShloMosaic.PureOps.Reduce

@[expose] public section

noncomputable section

namespace Cert.Proof.Talk

open Idealize.ShloMosaic Idealize.ShloMosaic.ValueIdx
open Cert.KernelIdeal Cert.KernelIdeal.Gen

variable {F : FTy → Type} [FloatOps F]

/-- Each device number is 16 times among a device's destinations. -/
def Balanced (A : S512.Idx → BitVec 32) : Prop :=
  ∀ r : ℕ, r < 32 → (Finset.univ.filter fun k : Fin 512 => (A (ix1 k)).toNat = r).card = 16

/-- A word is the word of a small number where its value is that number. -/
theorem word_eq_iff (w : BitVec 32) {r : ℕ} (hr : r < 2 ^ 32) : w = BitVec.ofNat 32 r ↔ w.toNat = r := by
  constructor
  · intro h
    rw [h, BitVec.toNat_ofNat, Nat.mod_eq_of_lt hr]
  · intro h
    rw [← h, BitVec.ofNat_toNat, BitVec.setWidth_eq]

/-- A comparison for equality gives one where both are equal. -/
theorem cmpi_eq_one_iff (x y : BitVec 32) : IntOp.cmpi .eq x y = 1#1 ↔ x = y := by
  rw [WordCmp.cmpi_eq_eq, WordCmp.ofBool_decide_eq_one_iff]

/-- Ones where entry `k` of the list is `r`, added up, count them. -/
theorem fold_ones {n : ℕ} (A : Fin n → BitVec 32) (f : Fin n → BitVec 32) (r : ℕ) (hr : r < 2 ^ 32)
    (hf : ∀ k, f k = (IntOp.cmpi .eq (A k) (BitVec.ofNat 32 r)).setWidth 32) :
    (Finset.univ : Finset (Fin n)).fold IntOp.addi 0#32 f
      = BitVec.ofNat 32 (Finset.univ.filter fun k : Fin n => (A k).toNat = r).card := by
  have e : f = fun k => (IntOp.cmpi .eq (A k) (BitVec.ofNat 32 r)).setWidth 32 := funext hf
  rw [e]
  refine (IndicatorCount.fold_addi_setWidth_eq_card (w := 32) (fun k => IntOp.cmpi .eq (A k) (BitVec.ofNat 32 r)) Finset.univ).trans ?_
  congr 2
  ext k
  simp only [Finset.mem_filter, Finset.mem_univ, true_and]
  rw [cmpi_eq_one_iff, word_eq_iff _ hr]

/-- The precondition's sum is over its second axis. -/
theorem pre_reduces : Cert.Pre_balanced_Kernel.S32x512.Reduces [1] Cert.Pre_balanced_Kernel.S32 := by decide

/-- What the precondition adds up: entry `(r, k)` is 1 where destination `k` is `r`. -/
def hits (A : S512.Idx → BitVec 32) : IVec Cert.Pre_balanced_Kernel.S32x512 32 := fun e =>
  (IntOp.cmpi .eq (A (ix1 (e 1))) (BitVec.ofNat 32 (e 0).val)).setWidth 32

/-- The precondition's value in those terms. -/
theorem pre_value (x : FVec F S512x256 .bf16) (A : S512.Idx → BitVec 32) (j : S32.Idx) :
    Cert.Pre_balanced_Kernel.fn (F := F) x A j
      = IntOp.cmpi .eq (Host.reduce IntOp.addi (hits A) (constantI Cert.Pre_balanced_Kernel.S_ 32 0#32)
          Cert.Pre_balanced_Kernel.Facts.reducesTo_S32x512_S32_d1 Cert.Pre_balanced_Kernel.Facts.h_S_ j) 16#32 := by
  unfold Cert.Pre_balanced_Kernel.fn
  refine congrArg (fun v => IntOp.cmpi .eq (Host.reduce IntOp.addi v (constantI Cert.Pre_balanced_Kernel.S_ 32 0#32)
          Cert.Pre_balanced_Kernel.Facts.reducesTo_S32x512_S32_d1 Cert.Pre_balanced_Kernel.Facts.h_S_ j) 16#32) (funext fun e => ?_)
  refine congrArg₂ (fun a b => (IntOp.cmpi .eq a b).setWidth 32) ?_ rfl
  refine congrArg A (funext fun d => ?_)
  have hd : d = (0 : Fin 1) := Subsingleton.elim (α := Fin 1) _ _
  subst hd
  rfl

/-- The precondition says that each device number is 16 times among the destinations. -/
theorem balanced_of_pre (x : FVec F S512x256 .bf16) (A : S512.Idx → BitVec 32)
    (h : Cert.Pre_balanced_Kernel.fn (F := F) x A = fun _ => 1#1) : Balanced A := by
  intro r hr
  have h1 := congrFun h (ix1 (⟨r, hr⟩ : Fin 32))
  rw [pre_value, cmpi_eq_one_iff, Host.reduce_eq_fold_single (f := IntOp.addi) (h := pre_reduces)] at h1
  have h2 := (fold_ones (fun k : Fin 512 => A (ix1 k)) (hits A ∘ pre_reduces.lift (ix1 (⟨r, hr⟩ : Fin 32))) r (by omega)
    fun k => rfl).symm.trans h1
  have h3 := congrArg BitVec.toNat h2
  have h4 : (Finset.univ.filter fun k : Fin 512 => (A (ix1 k)).toNat = r).card ≤ 512 :=
    (Finset.card_le_univ _).trans_eq (Fintype.card_fin 512)
  rw [BitVec.toNat_ofNat, Nat.mod_eq_of_lt (by omega)] at h3
  exact h3

/-- What the first call adds up: entry `(r, k)` is 1 where destination `k` is `r`. -/
def marks (A : S512.Idx → BitVec 32) : IVec S128x512 32 := fun e =>
  (IntOp.cmpi .eq (BitVec.ofNat 32 (e 0).val) (A (ix1 (e 1)))).setWidth 32

/-- The counts of the first call in those terms. -/
theorem count_value (A : S512.Idx → BitVec 32) :
    k0_pay1 (F := F) A = multiReductionI .add [1] S128 (marks A) 0#32 reduces_S128x512_S128 rfl := by
  unfold k0_pay1
  dsimp only
  rw [shapeCast_self, shapeCast_self, shapeCast_self]
  refine congrArg (fun v => multiReductionI .add [1] S128 v 0#32 reduces_S128x512_S128 rfl) (funext fun e => ?_)
  refine congrArg₂ (fun a b => (IntOp.cmpi .eq a b).setWidth 32) ?_ ?_
  · exact congrArg (BitVec.ofNat 32) (by simp)
  · refine (shapeCast_apply _ _ _ (ix1 (e 1)) ?_)
    rw [Shape.rowMajor_val_one, Shape.rowMajor_val_two]
    simp

/-- Under the precondition the first call counts 16 for each device and 0 in the lanes above. -/
theorem count_eq (A : S512.Idx → BitVec 32) (hA : Balanced A) (hlt : ∀ x, (A x).toNat < 32) (x : S128.Idx) :
    k0_pay1 (F := F) A x = if (x 0).val < 32 then 16#32 else 0#32 := by
  have hx : (x 0).val < 128 := (x 0).isLt
  rw [count_value]
  refine (congrFun (multiReductionI_eq_reduceFold .add (marks A) 0#32 reduces_S128x512_S128 rfl) x).trans ?_
  refine (reduceFold_eq_fold _ _ _ _ _).trans ?_
  refine (Shape.Reduces.fold_filter_drop_single _ _ _ _ _).trans ?_
  refine (fold_ones (fun k : Fin 512 => A (ix1 k)) _ (x 0).val (by omega) fun k => ?_).trans ?_
  · have e : (marks A ∘ reduces_S128x512_S128.lift x) k = (IntOp.cmpi .eq (BitVec.ofNat 32 (x 0).val) (A (ix1 k))).setWidth 32 := rfl
    rw [e, WordCmp.cmpi_eq_eq, WordCmp.cmpi_eq_eq]
    congr 3
    exact propext eq_comm
  · by_cases h : (x 0).val < 32
    · rw [if_pos h, hA _ h]
    · rw [if_neg h, Finset.filter_false_of_mem]
      · rfl
      · intro k _ hk
        have := hlt (ix1 k)
        omega

/-- Under the precondition every destination is a device number. -/
theorem lt_of_balanced (A : S512.Idx → BitVec 32) (hA : Balanced A) (x : S512.Idx) : (A x).toNat < 32 := by
  have h1 : ((Finset.univ : Finset (Fin 512)).filter fun k => (A (ix1 k)).toNat < 32).card = 512 := by
    rw [Finset.card_eq_sum_card_fiberwise (f := fun k : Fin 512 => (A (ix1 k)).toNat) (t := Finset.range 32)
      (fun k hk => by simpa using hk)]
    rw [Finset.sum_congr rfl (g := fun _ => 16)]
    · simp
    · intro r hr
      have hr' := Finset.mem_range.1 hr
      rw [← hA r hr', Finset.filter_filter]
      congr 1
      ext k
      simp only [Finset.mem_filter, Finset.mem_univ, true_and]
      constructor
      · exact fun h => h.2
      · exact fun h => ⟨by omega, h⟩
  have h2 : ((Finset.univ : Finset (Fin 512)).filter fun k => (A (ix1 k)).toNat < 32) = Finset.univ :=
    Finset.eq_univ_of_card _ (h1.trans (Fintype.card_fin 512).symm)
  have h3 : (x 0 : Fin 512) ∈ (Finset.univ : Finset (Fin 512)).filter fun k => (A (ix1 k)).toNat < 32 := by
    rw [h2]
    exact Finset.mem_univ _
  rw [eq_ix1 x]
  exact (Finset.mem_filter.1 h3).2

end Cert.Proof.Talk

end
-- ==== Proof.Offsets.lean ====
/- The row offsets that the program makes between its two calls, and the rows that enter the second call. -/
module

public import proofs.«01_k».proof.Proof.Run
public import proofs.«01_k».proof.Proof.Given
public import Idealize.ShloMosaic.Lib.Routing.Ops
public import Idealize.ShloMosaic.Lib.Routing.OpsPair

@[expose] public section

noncomputable section

namespace Cert.Proof.Talk

open Idealize.ShloMosaic Idealize.ShloMosaic.ValueIdx
open Idealize.ShloMosaic.TcCoe
open Cert.KernelIdeal Cert.KernelIdeal.Gen

variable {F : FTy → Type} [FloatOps F]

variable (m : (ℓ : Loc nD τ sig) → Buf (Elt F) ℓ) (P : Plan F)

attribute [local irreducible] W3 W5

/-- The number of the device, as the program makes it. -/
def meWord (c : Dev nD) : IVec S_ 32 := Host.remui (Host.divui (constantI S_ 32 (Dev.word c)) (constantI S_ 32 1#32)) (constantI S_ 32 32#32)

/-- The slots in which the program adds up the gathered counts. -/
def slots (c : Dev nD) : IVec S4096 32 :=
  select (andi (cmpi .slt (shapeCast S4096 (iotaInDim S32x128 32 0) shapeCasts_S32x128_S4096) (broadcastInDim S4096 ![] bcast_S_S4096 (meWord c)))
      (cmpi .slt (shapeCast S4096 (iotaInDim S32x128 32 1) shapeCasts_S32x128_S4096) (broadcastInDim S4096 ![] bcast_S_S4096 (constantI S_ 32 32#32))))
    (shapeCast S4096 (iotaInDim S32x128 32 1) shapeCasts_S32x128_S4096) (broadcastInDim S4096 ![] bcast_S_S4096 (constantI S_ 32 32#32))

/-- The program makes the device's number, -/
theorem W1_v4 (c : Dev nD) : W1 m c (Proc.devRef .tc main_v4) = meWord c := by
  unfold W1 V1
  after_results <;> rfl

/-- holds the gathered counts after the first call, -/
theorem W2_gat (c : Dev nD) : W2 m P c (Proc.devRef .tc main_v5_1) = P.gat := by
  dsimp only [W2]
  rw [Function.update_self]

/-- and what the device receives after the second. -/
theorem W4_v21 (c : Dev nD) : W4 m P c (Proc.devRef .tc main_v21) = P.Y c := by
  dsimp only [W4]
  rw [Function.update_self]

/-- The offsets are the gathered counts added up by slot. -/
theorem offsets_eq (c : Dev nD) : offsets m P c = Host.scatter scatter_S32_S4096x1_S4096_n_0_0_1 IntOp.addi
    (broadcastInDim S32 ![] bcast_S_S32 (constantI S_ 32 0#32)) (broadcastInDim S4096x1 ![0] bcast_S4096_S4096x1_0 (slots c)) P.gat := by
  unfold offsets slots
  rw [W3_eq, ← W1_v4 m c, ← W2_of m P c main_v4 (by decide) (by decide),
    show P.gat = W2 m P c (Proc.devRef .tc main_v5_1) from (W2_gat m P c).symm]
  generalize W2 m P c = W
  after_results <;> rfl

/-- The rows that are sent are those given, laid out in three axes. -/
theorem rows_eq (c : Dev nD) : W3 m P c (Proc.devRef .tc main_v20)
    = shapeCast S512x1x256 (m (c, Proc.devRef .tc main_arg0)) shapeCasts_S512x256_S512x1x256 := by
  rw [W3_eq, show m (c, Proc.devRef .tc main_arg0) = W2 m P c (Proc.devRef .tc main_arg0) from
    ((W2_of m P c main_arg0 (by decide) (by decide)).trans (V1_of m c main_arg0 (by decide))).symm]
  generalize W2 m P c = W
  after_results <;> rfl

/-- The result is what the device receives, laid out in two axes. -/
theorem result_eq (c : Dev nD) : W5 m P c (Proc.devRef .tc main_v22) = shapeCast S512x256 (P.Y c) shapeCasts_S512x1x256_S512x256 := by
  rw [W5_eq, show P.Y c = W4 m P c (Proc.devRef .tc main_v21) from (W4_v21 m P c).symm]
  generalize W4 m P c = W
  after_results <;> rfl

/-! ## The offsets as numbers -/

/-- The device's number is its number. -/
theorem meWord_eq (c : Dev nD) : meWord c = fun _ => BitVec.ofNat 32 c.val := by
  funext j
  have hc : c.val < 32 := c.isLt
  show IntOp.remui .host (IntOp.divui .host (Dev.word c) 1#32) 32#32 = BitVec.ofNat 32 c.val
  unfold IntOp.remui IntOp.divui
  rw [if_neg (by decide), if_neg (by decide)]
  apply BitVec.eq_of_toNat_eq
  have e : (Dev.word c).toNat = c.val := WordCmp.toNat_ofNat_of_lt (by omega)
  rw [BitVec.toNat_umod, BitVec.toNat_udiv, e]
  show c.val / 1 % 32 = c.val
  omega

/-- Slot k is lane k % 128 where that is a device number and k / 128 a device before c, and 32 otherwise. -/
theorem slots_apply (c : Dev nD) (k : Fin 4096) :
    slots c (ix1 k) = BitVec.ofNat 32 (if k.val / 128 < c.val ∧ k.val % 128 < 32 then k.val % 128 else 32) := by
  have hc : c.val < 32 := c.isLt
  have h0 : shapeCast S4096 (iotaInDim S32x128 32 0) shapeCasts_S32x128_S4096 (ix1 k) = BitVec.ofNat 32 (k.val / 128) := by
    have hq : k.val / 128 < 32 := by omega
    have hr : k.val % 128 < 128 := by omega
    refine (shapeCast_apply _ _ _ (ix2 (⟨k.val / 128, hq⟩ : Fin 32) (⟨k.val % 128, hr⟩ : Fin 128)) ?_)
    rw [Shape.rowMajor_val_one, Shape.rowMajor_val_two]
    show k.val / 128 * 128 + k.val % 128 = k.val
    omega
  have h1 : shapeCast S4096 (iotaInDim S32x128 32 1) shapeCasts_S32x128_S4096 (ix1 k) = BitVec.ofNat 32 (k.val % 128) := by
    have hq : k.val / 128 < 32 := by omega
    have hr : k.val % 128 < 128 := by omega
    refine (shapeCast_apply _ _ _ (ix2 (⟨k.val / 128, hq⟩ : Fin 32) (⟨k.val % 128, hr⟩ : Fin 128)) ?_)
    rw [Shape.rowMajor_val_one, Shape.rowMajor_val_two]
    show k.val / 128 * 128 + k.val % 128 = k.val
    omega
  show Scalar.select (IntOp.andi
      (IntOp.cmpi .slt (shapeCast S4096 (iotaInDim S32x128 32 0) shapeCasts_S32x128_S4096 (ix1 k)) (meWord c _))
      (IntOp.cmpi .slt (shapeCast S4096 (iotaInDim S32x128 32 1) shapeCasts_S32x128_S4096 (ix1 k)) 32#32))
    (shapeCast S4096 (iotaInDim S32x128 32 1) shapeCasts_S32x128_S4096 (ix1 k)) 32#32 = _
  rw [h0, h1, meWord_eq, WordCmp.cmpi_slt_ofNat (by omega) (by omega), WordCmp.cmpi_slt_ofNat (by omega) (by omega),
    WordCmp.andi_ofBool, ← Bool.decide_and, WordCmp.select_decide]
  by_cases h : k.val / 128 < c.val ∧ k.val % 128 < 32
  · rw [if_pos h, if_pos h]
  · rw [if_neg h, if_neg h]

/-- Update k of the sum lands at device r exactly where its slot is r. -/
theorem slot_lands (d : ScatterDims S32 S4096x1 S4096) (hiw : d.insertedWindowDims = [0])
    (hsd : d.scatterDimsToOperandDims = [0]) (hivd : d.indexVectorDim = 1) (idx : IVec S4096x1 32) (k : Fin 4096) (r : Fin 32) :
    d.resultIdx? (ix1 k) idx = some (ix1 r) ↔ (idx (ix2 k (0 : Fin 1))).toInt = (r.val : Int) := by
  have hm : (0 : Fin 1) ∈ d.scatterDimsToOperandDims := by rw [hsd]; exact List.mem_singleton.2 rfl
  have hw : d.window (ix1 k) 0 = 0 := by
    unfold ScatterDims.window
    rw [dif_neg fun h => (of_decide_eq_true (List.mem_filter.1 h).2) (by rw [hiw]; exact List.mem_singleton.2 rfl)]
  have hs : d.start (ix1 k) idx 0 = (idx (ix2 k (0 : Fin 1))).toInt := by
    unfold ScatterDims.start
    rw [dif_pos hm]
    refine congrArg (fun e => (idx e).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      have e : ∀ a : Fin 1, (ix1 k a).val = k.val := fun a => by
        obtain rfl : a = 0 := Subsingleton.elim _ _
        rfl
      exact e _
    | ⟨1, _⟩ =>
      unfold ScatterDims.siIdx
      rw [dif_pos (by rw [hivd])]
      show List.idxOf (0 : Fin 1) d.scatterDimsToOperandDims = 0
      rw [hsd]; simp
  refine (Routing.resultIdx?_ix1 d (ix1 k) idx r).trans ?_
  rw [hs, hw]
  simp

/-- A sum at index i of updates that are all w where they land there. -/
theorem sum_lands {s : Shape} {α : Type} (l : List α) (o : α → Option s.Idx) (u : α → BitVec 32) (i : s.Idx) (w : ℕ) (p : α → Bool)
    (hp : ∀ n, o n = some i ↔ p n = true) (hu : ∀ n, p n = true → u n = BitVec.ofNat 32 w) (x : s.Idx → BitVec 32) (a : ℕ)
    (hx : x i = BitVec.ofNat 32 a) :
    l.foldl (fun r n => match o n with
      | some i => fun i' => if i' = i then IntOp.addi (r i) (u n) else r i'
      | none => r) x i = BitVec.ofNat 32 (a + w * l.countP p) := by
  induction l generalizing x a with
  | nil => simpa using hx
  | cons n l ih =>
    rw [List.foldl_cons]
    by_cases h : p n = true
    · rw [ih _ (a + w)]
      · rw [List.countP_cons_of_pos h]
        congr 1
        ring
      · rw [(hp n).2 h]
        show (if i = i then IntOp.addi (x i) (u n) else x i) = _
        rw [if_pos rfl, hx, hu n h]
        exact (BitVec.ofNat_add a w).symm
    · rw [ih _ a]
      · rw [List.countP_cons_of_neg h]
      · cases ho : o n with
        | none => exact hx
        | some i' =>
          show (if i = i' then IntOp.addi (x i') (u n) else x i) = _
          rw [if_neg fun e => h ((hp n).1 (by rw [ho, e])), hx]

/-- Of the 32 lists of 128 counts gathered, the lists before the c-th have c entries in lane r. -/
theorem lanes_before (c r : ℕ) (hc : c < 32) (hr : r < 32) : Nat.count (fun k => k / 128 < c ∧ k % 128 = r) 4096 = c := by
  rw [Nat.count_eq_card_filter_range]
  have e : (Finset.range 4096).filter (fun k => k / 128 < c ∧ k % 128 = r) = (Finset.range c).image fun p => 128 * p + r := by
    ext k
    simp only [Finset.mem_filter, Finset.mem_range, Finset.mem_image]
    constructor
    · rintro ⟨_, h1, h2⟩
      exact ⟨k / 128, h1, by omega⟩
    · rintro ⟨p, hp, rfl⟩
      omega
  rw [e, Finset.card_image_of_injective _ (fun a b h => by have h' : 128 * a + r = 128 * b + r := h; omega), Finset.card_range]

/-- There are 4096 gathered counts. -/
theorem numel_S4096 : S4096.numel = 4096 := Shape.numel_rank1 _

/-- The n-th of them in order is entry n. -/
theorem symm_S4096 (n : Fin S4096.numel) : S4096.rowMajor.symm n = ix1 (n.cast numel_S4096) :=
  (S4096.rowMajor.symm_apply_eq).2 (Fin.ext (by rw [Shape.rowMajor_val_one]; rfl))

/-- Where every device counts 16 for each device, the offsets of device c are 16 times c. -/
theorem offsets_apply (hg : ∀ k : Fin 4096, k.val % 128 < 32 → P.gat (ix1 k) = 16#32) (c : Dev nD) (r : Fin 32) :
    offsets m P c (ix1 r) = BitVec.ofNat 32 (16 * c.val) := by
  have hc : c.val < 32 := c.isLt
  rw [offsets_eq]
  unfold Host.scatter
  have hp : ∀ n : Fin S4096.numel, scatter_S32_S4096x1_S4096_n_0_0_1.resultIdx? (S4096.rowMajor.symm n)
      (broadcastInDim S4096x1 ![0] bcast_S4096_S4096x1_0 (slots c)) = some (ix1 r)
        ↔ decide (n.val / 128 < c.val ∧ n.val % 128 = r.val) = true := by
    intro n
    rw [symm_S4096]
    refine (slot_lands _ rfl rfl rfl _ _ r).trans ?_
    rw [decide_eq_true_iff]
    have hr := r.isLt
    have e : broadcastInDim S4096x1 ![0] bcast_S4096_S4096x1_0 (slots c) (ix2 (n.cast numel_S4096) (0 : Fin 1))
        = slots c (ix1 (n.cast numel_S4096)) := by
      refine congrArg (slots c) (funext fun d => ?_)
      have hd : d = (0 : Fin 1) := Subsingleton.elim (α := Fin 1) _ _
      subst hd
      rfl
    rw [e, slots_apply]
    show (BitVec.ofNat 32 (if n.val / 128 < c.val ∧ n.val % 128 < 32 then n.val % 128 else 32)).toInt = (r.val : ℤ) ↔ _
    by_cases h : n.val / 128 < c.val ∧ n.val % 128 < 32
    · rw [if_pos h, WordCmp.toInt_ofNat_of_lt (by omega)]
      omega
    · rw [if_neg h, WordCmp.toInt_ofNat_of_lt (by decide)]
      omega
  refine (sum_lands (List.finRange S4096.numel) _ _ (ix1 r) 16 _ hp ?_ _ 0 rfl).trans ?_
  · intro n hn
    have hn' := of_decide_eq_true hn
    rw [symm_S4096]
    exact hg _ (by have := r.isLt; show n.val % 128 < 32; omega)
  · rw [Nat.zero_add]
    have e : (List.finRange S4096.numel).countP (fun n => decide (n.val / 128 < c.val ∧ n.val % 128 = r.val)) = c.val := by
      rw [Routing.countP_finRange _ (fun k => k / 128 < c.val ∧ k % 128 = r.val), numel_S4096]
      exact lanes_before c.val r.val hc r.isLt
    rw [e]

end Cert.Proof.Talk

end
-- ==== Proof.Fit.lean ====
/- The plan that a given memory calls for, where the destinations that it gives are balanced: it fits the memory. -/
module

public import proofs.«01_k».proof.Proof.Offsets

@[expose] public section

noncomputable section

namespace Cert.Proof.Talk

open Idealize.ShloMosaic Idealize.ShloMosaic.ValueIdx
open Idealize.ShloMosaic.TcCoe
open Cert.KernelIdeal Cert.KernelIdeal.Gen

variable {F : FTy → Type} [FloatOps F]

variable (m : (ℓ : Loc nD τ sig) → Buf (Elt F) ℓ)

attribute [local irreducible] W3 W5

/-- Row j of a device's 512, counted round. -/
abbrev row (j : ℕ) : S512.Idx := ix1 (⟨j % 512, Nat.mod_lt _ (by decide)⟩ : Fin 512)

/-- The destination that device c was given for row j, as a number, -/
def goal (c : Dev nD) (j : ℕ) : ℕ := BitVec.toNat (given m c (row j))

/-- and as a device. -/
def goesTo (c : Dev nD) (j : ℕ) : Dev nD := ⟨goal m c j % 32, Nat.mod_lt _ (by decide)⟩

/-- The device and the row of entry a of all the destinations. -/
def devAt (a : Fin 16384) : Dev nD := ⟨a.val / 512, by have h := a.isLt; show a.val / 512 < 32; omega⟩

/-- Entry a of all the destinations. -/
def key (a : Fin 16384) : ℕ := goal m (devAt a) a.val

/-- The entry that a stable sort by destination puts q-th. -/
def sorted (q : Fin 16384) : Fin 16384 := sortedFrom (fun a a' => decide (key m a < key m a')) q

/-- The rows that device c was given, as it sends them. -/
def sends (c : Dev nD) : S512x1x256.Idx → Elt F .bf16 :=
  shapeCast S512x1x256 (m (c, Proc.devRef .tc main_arg0)) shapeCasts_S512x256_S512x1x256

/-- Row e of device c in the order of all the rows. -/
def slotOf (c : Dev nD) (e : Fin 512) : Fin 16384 :=
  ⟨512 * c.val + e.val, by have h : c.val < 32 := c.isLt; have h' := e.isLt; omega⟩

/-- Row n of all the rows. -/
def rowAt (n : Fin 16384) : Fin 512 := ⟨n.val % 512, Nat.mod_lt _ (by decide)⟩

/-- What device c receives: its part of all the rows in the order of a stable sort by destination. -/
def gets (c : Dev nD) : S512x1x256.Idx → Elt F .bf16 := fun e =>
  sends m (devAt (sorted m (slotOf c (e 0)))) (ix3 (rowAt (sorted m (slotOf c (e 0)))) (0 : Fin 1) (e 2))

section Balance

variable (hB : ∀ c, Balanced (given m c))

include hB in
/-- A balanced destination is a device's number, -/
theorem goal_lt (c : Dev nD) (j : ℕ) : goal m c j < 32 := lt_of_balanced _ (hB c) _

include hB in
/-- so the device that it names has that number. -/
theorem goesTo_val (c : Dev nD) (j : ℕ) : (goesTo m c j).val = goal m c j := Nat.mod_eq_of_lt (goal_lt m hB c j)

include hB in
/-- Balanced destinations send 16 rows of each device to each. -/
theorem even_goesTo : Even (goesTo m) := by
  intro p r
  have hr : r.val < 32 := r.isLt
  rw [← hB p r.val hr]
  refine Finset.card_bij' (fun j _ => (⟨j % 512, Nat.mod_lt _ (by decide)⟩ : Fin 512)) (fun k _ => k.val) ?_ ?_ ?_ ?_
  · intro j hj
    have hj' := Finset.mem_filter.1 hj
    rw [Finset.mem_filter]
    exact ⟨Finset.mem_univ _, (goesTo_val m hB p j).symm.trans (congrArg Fin.val hj'.2)⟩
  · intro k hk
    have hk' := (Finset.mem_filter.1 hk).2
    rw [Finset.mem_filter, Finset.mem_range]
    refine ⟨k.isLt, Fin.ext ((goesTo_val m hB p k.val).trans ?_)⟩
    have e : row k.val = ix1 k := congrArg ix1 (Fin.ext (Nat.mod_eq_of_lt k.isLt))
    unfold goal
    rw [e]
    exact hk'
  · intro j hj
    exact Nat.mod_eq_of_lt (Finset.mem_range.1 (Finset.mem_filter.1 hj).1)
  · intro k _
    exact Fin.ext (Nat.mod_eq_of_lt k.isLt)

/-- Where entry a of all the rows lands among them all. -/
def lands (a : Fin 16384) : Fin 16384 :=
  ⟨512 * (goesTo m (devAt a) (a.val % 512)).val + place (goesTo m) (devAt a) (a.val % 512), by
    have h : (goesTo m (devAt a) (a.val % 512)).val < 32 := (goesTo m (devAt a) (a.val % 512)).isLt
    have h' := place_lt (even_goesTo m hB) (devAt a) (Nat.mod_lt a.val (show 0 < 512 by decide))
    omega⟩

/-- Rows are counted round. -/
theorem goal_mod (c : Dev nD) (j : ℕ) : goal m c (j % 512) = goal m c j := by
  unfold goal row
  congr 3
  exact Fin.ext (Nat.mod_mod _ _)

include hB in
/-- The device to which entry a of all the rows goes has the entry's key as its number. -/
theorem goesTo_key (a : Fin 16384) : (goesTo m (devAt a) (a.val % 512)).val = key m a := by
  rw [goesTo_val m hB, goal_mod]
  rfl

/-- The stable sort takes the row that lands q-th as its q-th. -/
theorem sorted_lands (a : Fin 16384) : sorted m (lands m hB a) = a := by
  unfold sorted
  refine sortedFrom_place _ (key m) 32 (fun b => goal_lt m hB _ _) (fun _ _ => rfl) (lands m hB) ?_ a
  intro b b' h
  show 512 * (goesTo m (devAt b) (b.val % 512)).val + place (goesTo m) (devAt b) (b.val % 512)
    < 512 * (goesTo m (devAt b') (b'.val % 512)).val + place (goesTo m) (devAt b') (b'.val % 512)
  have h1 := place_lt (even_goesTo m hB) (devAt b) (Nat.mod_lt b.val (show 0 < 512 by decide))
  rcases h with h | ⟨h, hlt⟩
  · rw [← goesTo_key m hB b, ← goesTo_key m hB b'] at h
    omega
  · rw [← goesTo_key m hB b, ← goesTo_key m hB b'] at h
    have hlt' : b.val < b'.val := hlt
    have h2 := place_mono (even_goesTo m hB) (p := devAt b) (p' := devAt b') (Nat.mod_lt b.val (show 0 < 512 by decide)) (Fin.ext h)
      (by
        show b.val / 512 < b'.val / 512 ∨ (b.val / 512 = b'.val / 512 ∧ b.val % 512 < b'.val % 512)
        omega)
    omega

/-- The plan. -/
def planOf : Plan F where
  dst := goesTo m
  pos := place (goesTo m)
  cnt := fun x => if (x 0).val < 32 then (16#32 : BitVec 32) else (0#32 : BitVec 32)
  gat := fun e => if (e 0).val % 128 < 32 then (16#32 : BitVec 32) else (0#32 : BitVec 32)
  X := sends m
  Y := gets m
  bal := even_bal (even_goesTo m hB)
  pos_lt := fun p _ hj => place_lt (even_goesTo m hB) p hj
  pos_inj := fun _ _ _ _ hj hj' hd he => place_inj (even_goesTo m hB) hj hj' hd he
  land := by
    intro p j e e' hj he he' h2
    have hs := sorted_lands m hB (slotOf p ⟨j, hj⟩)
    have hp : p.val < 32 := p.isLt
    have hd : devAt (slotOf p ⟨j, hj⟩) = p := Fin.ext (show (512 * p.val + j) / 512 = p.val by omega)
    have hm : (slotOf p ⟨j, hj⟩).val % 512 = j := show (512 * p.val + j) % 512 = j by omega
    have hl : lands m hB (slotOf p ⟨j, hj⟩) = slotOf (goesTo m p j) (e' 0) := by
      apply Fin.ext
      show 512 * (goesTo m (devAt (slotOf p ⟨j, hj⟩)) ((slotOf p ⟨j, hj⟩).val % 512)).val
        + place (goesTo m) (devAt (slotOf p ⟨j, hj⟩)) ((slotOf p ⟨j, hj⟩).val % 512) = 512 * (goesTo m p j).val + (e' 0).val
      rw [hd, hm, he']
    rw [hl] at hs
    show sends m (devAt (sorted m (slotOf (goesTo m p j) (e' 0)))) (ix3 (rowAt (sorted m (slotOf (goesTo m p j) (e' 0)))) (0 : Fin 1) (e' 2)) = _
    rw [hs, hd]
    refine congrArg (sends m p) ?_
    have e0 : rowAt (slotOf p ⟨j, hj⟩) = e 0 := Fin.ext (hm.trans he.symm)
    have e1 : (0 : Fin 1) = e 1 := Subsingleton.elim (α := Fin 1) _ _
    have e2 : e' 2 = e 2 := Fin.ext h2.symm
    rw [e0, e1, e2]
    exact (eq_ix3 e).symm

/-- It fits. -/
theorem fits : Fits m (planOf m hB) where
  cnt := fun c => funext fun x => count_eq (F := F) (given m c) (hB c) (lt_of_balanced _ (hB c)) x
  gat := by
    intro e x h
    show (if (e 0).val % 128 < 32 then (16#32 : BitVec 32) else (0#32 : BitVec 32)) = if (x 0).val < 32 then (16#32 : BitVec 32) else (0#32 : BitVec 32)
    rw [h]
  staged := fun c =>
    { dst := fun x => by
        refine Eq.trans ?_ (goesTo_val m hB c (x 0).val).symm
        unfold goal
        have e : row (x 0).val = x := (congrArg ix1 (Fin.ext (Nat.mod_eq_of_lt (x 0).isLt))).trans (eq_ix1 x).symm
        rw [e]
      pos := fun j hj x hx => by
        have hc : c.val < 32 := c.isLt
        have ho : offsets m (planOf m hB) c x = BitVec.ofNat 32 (16 * c.val) :=
          (congrArg (offsets m (planOf m hB) c) (eq_ix1 x)).trans (offsets_apply m (planOf m hB) (fun k hk => if_pos hk) c (x 0))
        rw [ho, WordCmp.toNat_ofNat_of_lt (by omega)]
        show 16 * c.val + seen (planOf m hB) c j (goesTo m c j).val = 16 * c.val + before (goesTo m) c j
        unfold seen before
        congr 2
        ext i
        simp only [Finset.mem_filter]
        exact and_congr_right fun _ => ⟨fun h => Fin.ext h, fun h => congrArg Fin.val h⟩ }
  rows := fun c => rows_eq m (planOf m hB) c

end Balance

end Cert.Proof.Talk

end
-- ==== Proof.Frames.lean ====
/- Every execution ends with the arguments as they were and every semaphore at zero: the two kernels' and the reference's. -/
module

public import proofs.«01_k».proof.Proof.Fit
public import proofs.«01_k».proof.Proof.Gen.Kernel
public import proofs.«01_k».proof.Proof.Gen.ReferenceIdeal
public import proofs.«01_k».proof.Proof.Gen.Pre_balanced_ReferenceIdeal
public import proofs.«01_k».proof.Proof.Gen.ReferenceIdeal.Run
public import Idealize.ShloMosaic.Lib.Quiescent

@[expose] public section

noncomputable section

namespace Cert.Proof.Talk

open Idealize.ShloMosaic Idealize.SL.Sem

/-! ## The kernel's program is the idealized kernel's -/

/-- The first call's body is the same, -/
theorem first_eq (t : Fin Cert.Kernel.grid0.N × ((w : Fin 1) → Fin (Cert.Kernel.win0 w).nbuf)) :
    Cert.Kernel.defs₀ (F := Bits) .tc (0 : Fin 2) t = Cert.KernelIdeal.defs₀ (F := Bits) .tc (0 : Fin 2) t := rfl

/-- and the second's. -/
theorem second_eq (t : Fin Cert.Kernel.grid1.N × ((w : Fin 2) → Fin (Cert.Kernel.win1 w).nbuf)) :
    Cert.Kernel.defs₀ (F := Bits) .tc (1 : Fin 2) t = Cert.KernelIdeal.defs₀ (F := Bits) .tc (1 : Fin 2) t := rfl

/-- Each body is the same. -/
theorem bodies_eq : Cert.Kernel.defs₀ (F := Bits) = Cert.KernelIdeal.defs₀ (F := Bits) := by
  funext p l a
  match p with
  | .scScalar _ => rfl
  | .scVector _ _ => rfl
  | .tc =>
    match l, a with
    | (0 : Fin 2), a => exact first_eq a
    | (1 : Fin 2), a => exact second_eq a

/-- So all that the programs call is the same, -/
theorem defs_eq : Cert.Kernel.defs (F := Bits) = Cert.KernelIdeal.defs (F := Bits) :=
  congrArg (Pipeline.defs (Cert.Kernel.pcfgs (F := Bits))) bodies_eq

/-- and so are their own texts. -/
theorem main_eq : Cert.Kernel.main (F := Bits) = Cert.KernelIdeal.main (F := Bits) := by
  funext d
  unfold Cert.Kernel.main Cert.KernelIdeal.main
  rfl

/-- The kernel's: the run of the idealized kernel's program, over the bit patterns. -/
theorem frame_kernel : Cert.quiescent_Kernel := fun m ρ hpre => by
  rw [defs_eq, main_eq]
  exact (θ_run Cert.KernelIdeal.defs _ _).mono (fun _ h => ⟨fun c => ⟨(h.1 c).1, (h.1 c).2.1⟩, h.2⟩)
    (run (F := Bits) m _ ρ (fits m fun c => balanced_of_pre _ _ (hpre c)))

/-- The idealized kernel's. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (run (F := Ideal) m _ ρ (fits m fun c => balanced_of_pre _ _ (hpre c)))

/-- The reference has no semaphore, so its run leaves every one at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same from balanced destinations. -/
theorem frame_reference_balanced : Cert.quiescent_ReferenceIdeal_pre_balanced_ReferenceIdeal := fun m ρ _ =>
  frame_reference m ρ trivial

end Cert.Proof.Talk

end
-- ==== Proof.Value.lean ====
/- The reference's result, row by row, and that each device's result is its block of it. -/
module

public import proofs.«01_k».proof.Proof.Frames
public import Idealize.ShloMosaic.Lib.Layout

@[expose] public section

noncomputable section

namespace Cert.Proof.Talk

open Idealize.ShloMosaic Idealize.ShloMosaic.ValueIdx
open Idealize.ShloMosaic.TcCoe Idealize.SL.Sem

attribute [local irreducible] W3 W5

/-! ## A device's blocks -/

/-- Row e of block c of a list of 16384. -/
theorem block_row {α : Type} (c : Fin 32) (A : Cert.ReferenceIdeal.S16384.Idx → α) (e : Fin 512) (a : Fin 16384) (ha : a.val = 512 * c.val + e.val) :
    (Layout.block ⟨1, ![512]⟩ ⟨1, ![16384]⟩ 0 32 c A) (ix1 e) = A (ix1 a) := by
  refine congrArg A (funext fun b => Fin.ext ?_)
  match b with
  | ⟨0, _⟩ =>
    show c.val * 512 + e.val = a.val
    omega

/-- Entry (e, y) of block c of a table of 16384 rows. -/
theorem block_entry {α : Type} (c : Fin 32) (A : Cert.ReferenceIdeal.S16384x256.Idx → α) (e : Fin 512) (y : Fin 256) (a : Fin 16384)
    (ha : a.val = 512 * c.val + e.val) :
    (Layout.block ⟨2, ![512, 256]⟩ ⟨2, ![16384, 256]⟩ 0 32 c A) (ix2 e y) = A (ix2 a y) := by
  refine congrArg A (funext fun b => Fin.ext ?_)
  match b with
  | ⟨0, _⟩ =>
    show c.val * 512 + e.val = a.val
    omega
  | ⟨1, _⟩ => rfl

/-! ## The reference -/

section Reference

open Cert.ReferenceIdeal Cert.ReferenceIdeal.Gen

/-- The numbers of the rows in the order of a stable sort of the destinations A. -/
def order (A : S16384.Idx → BitVec 32) : S16384.Idx → BitVec 32 :=
  (Host.sort2 S16384 0 comparator_i32_i32_d0 A (iotaInDim S16384 32 0)).2

/-- Where the destinations A are the words of the numbers k, all small, what a stable sort of them carries along comes in the
    order of a stable sort of the numbers. -/
theorem carried_apply (A B : S16384.Idx → BitVec 32) (k : Fin 16384 → ℕ) (hk : ∀ a, (A (ix1 a)).toNat = k a) (hlt : ∀ a, k a < 32)
    (q : Fin 16384) : (Host.sort2 S16384 0 comparator_i32_i32_d0 A B).2 (ix1 q) = B (ix1 (sortedFrom (fun a a' => decide (k a < k a')) q)) := by
  have ha : ∀ a : Fin 16384, Shape.Idx.along (s := S16384) (ix1 q) (0 : Fin 1) a = ix1 a := fun a => by
    funext d
    have hd : d = (0 : Fin 1) := Subsingleton.elim (α := Fin 1) _ _
    subst hd
    exact Function.update_self ..
  have hc : (fun a a' : Fin 16384 => comparator_i32_i32_d0
        (A (Shape.Idx.along (s := S16384) (ix1 q) (0 : Fin 1) a), B (Shape.Idx.along (s := S16384) (ix1 q) (0 : Fin 1) a))
        (A (Shape.Idx.along (s := S16384) (ix1 q) (0 : Fin 1) a'), B (Shape.Idx.along (s := S16384) (ix1 q) (0 : Fin 1) a')) == 1#1)
      = fun a a' => decide (k a < k a') := by
    funext a a'
    rw [ha a, ha a']
    show (IntOp.cmpi .slt (A (ix1 a)) (A (ix1 a')) == 1#1) = _
    have h1 : (A (ix1 a)).toNat < 2 ^ (32 - 1) := by rw [hk]; exact lt_trans (hlt a) (by decide)
    have h2 : (A (ix1 a')).toNat < 2 ^ (32 - 1) := by rw [hk]; exact lt_trans (hlt a') (by decide)
    rw [WordCmp.cmpi_slt_of_lt h1 h2, hk, hk]
    cases decide (k a < k a') <;> rfl
  show B (Shape.Idx.along (s := S16384) (ix1 q) (0 : Fin 1) (sortedFrom (fun a a' : Fin 16384 => comparator_i32_i32_d0
        (A (Shape.Idx.along (s := S16384) (ix1 q) (0 : Fin 1) a), B (Shape.Idx.along (s := S16384) (ix1 q) (0 : Fin 1) a))
        (A (Shape.Idx.along (s := S16384) (ix1 q) (0 : Fin 1) a'), B (Shape.Idx.along (s := S16384) (ix1 q) (0 : Fin 1) a')) == 1#1) q)) = _
  rw [hc]
  exact congrArg B (ha _)

/-- So the q-th number of a row is that of the row which the sort of the numbers takes q-th. -/
theorem order_apply (A : S16384.Idx → BitVec 32) (k : Fin 16384 → ℕ) (hk : ∀ a, (A (ix1 a)).toNat = k a) (hlt : ∀ a, k a < 32)
    (q : Fin 16384) : order A (ix1 q) = BitVec.ofNat 32 (sortedFrom (fun a a' => decide (k a < k a')) q).val :=
  (carried_apply A (iotaInDim S16384 32 0) k hk hlt q).trans rfl

/-- The reference's result of the rows X and the destinations A, as its run leaves it. -/
def whole (X : S16384x256.Idx → Elt Ideal .bf16) (A : S16384.Idx → BitVec 32) : S16384x256.Idx → Elt Ideal .bf16 :=
  Host.gather gather_S16384x256_S16384x1_S16384x256_1_0_n_n_0_1_1256 X (broadcastInDim S16384x1 ![0] bcast_S16384_S16384x1_0
    (select (cmpi .slt (order A) (broadcastInDim S16384 ![] bcast_S_S16384 (constantI S_ 32 0#32)))
      (addi (order A) (broadcastInDim S16384 ![] bcast_S_S16384 (constantI S_ 32 16384#32))) (order A)))

/-- A list laid out as a column. -/
theorem column_apply (v : S16384.Idx → BitVec 32) (q : Fin 16384) :
    broadcastInDim S16384x1 ![0] bcast_S16384_S16384x1_0 v (ix2 q (0 : Fin 1)) = v (ix1 q) := by
  refine congrArg v (funext fun d => ?_)
  have hd : d = (0 : Fin 1) := Subsingleton.elim (α := Fin 1) _ _
  subst hd
  rfl

/-- Row q of it is the row of X that the stable sort of the destinations takes q-th. -/
theorem whole_apply (X : S16384x256.Idx → Elt Ideal .bf16) (A : S16384.Idx → BitVec 32) (k : Fin 16384 → ℕ)
    (hk : ∀ a, (A (ix1 a)).toNat = k a) (hlt : ∀ a, k a < 32) (q : Fin 16384) (y : Fin 256) :
    whole X A (ix2 q y) = X (ix2 (sortedFrom (fun a a' => decide (k a < k a')) q) y) := by
  refine Routing.gather_row _ rfl rfl rfl rfl rfl X _ q y _ ?_ (by decide)
  refine (column_apply _ q).trans ?_
  show Scalar.select (IntOp.cmpi .slt (order A (ix1 q)) 0#32) (IntOp.addi (order A (ix1 q)) 16384#32) (order A (ix1 q)) = _
  rw [order_apply A k hk hlt q]
  refine Routing.wrap_of_lt _ _ ?_
  have h := (sortedFrom (fun a a' => decide (k a < k a')) q).isLt
  rw [BitVec.toNat_ofNat]
  exact lt_of_le_of_lt (Nat.mod_le _ _) (lt_trans h (by decide))

end Reference

/-! ## The kernel -/

section Blocks

open Cert.KernelIdeal Cert.KernelIdeal.Gen

variable (m : (ℓ : Loc nD τ sig) → Buf (Elt Ideal) ℓ)

/-- Rows laid out in three axes, -/
theorem spread_apply {α : Type} (x : S512x256.Idx → α) (e : Fin 512) (y : Fin 256) :
    shapeCast S512x1x256 x shapeCasts_S512x256_S512x1x256 (ix3 e (0 : Fin 1) y) = x (ix2 e y) := by
  refine shapeCast_apply _ _ _ _ ?_
  rw [Shape.rowMajor_val_three, Shape.rowMajor_val_two]
  show e.val * 256 + y.val = (e.val * 1 + 0) * 256 + y.val
  omega

/-- and back in two. -/
theorem flat_apply {α : Type} (x : S512x1x256.Idx → α) (e : Fin 512) (y : Fin 256) :
    shapeCast S512x256 x shapeCasts_S512x1x256_S512x256 (ix2 e y) = x (ix3 e (0 : Fin 1) y) := by
  refine shapeCast_apply _ _ _ _ ?_
  rw [Shape.rowMajor_val_three, Shape.rowMajor_val_two]
  show (e.val * 1 + 0) * 256 + y.val = e.val * 256 + y.val
  omega

/-- Entry (e, y) of what device c receives is entry y of the row that the stable sort takes as row e of the device's part. -/
theorem gets_apply (c : Dev nD) (e : Fin 512) (y : Fin 256) :
    shapeCast S512x256 (gets m c) shapeCasts_S512x1x256_S512x256 (ix2 e y)
      = m (devAt (sorted m (slotOf c e)), Proc.devRef .tc main_arg0) (ix2 (rowAt (sorted m (slotOf c e))) y) :=
  (flat_apply (gets m c) e y).trans (spread_apply (m (devAt (sorted m (slotOf c e)), Proc.devRef .tc main_arg0)) _ y)

variable (X : Cert.ReferenceIdeal.S16384x256.Idx → Elt Ideal .bf16) (A : Cert.ReferenceIdeal.S16384.Idx → BitVec 32)

/-- Each device's result is its block of the reference's. -/
theorem result_block (hB : ∀ c, Balanced (given m c))
    (hX : ∀ c : Dev nD, m (c, Proc.devRef .tc main_arg0) = Layout.block ⟨2, ![512, 256]⟩ ⟨2, ![16384, 256]⟩ 0 32 c X)
    (hA : ∀ c : Dev nD, given m c = Layout.block ⟨1, ![512]⟩ ⟨1, ![16384]⟩ 0 32 c A) (c : Dev nD) :
    shapeCast S512x256 (gets m c) shapeCasts_S512x1x256_S512x256 = Layout.block ⟨2, ![512, 256]⟩ ⟨2, ![16384, 256]⟩ 0 32 c (whole X A) := by
  have hk : ∀ a, (A (ix1 a)).toNat = key m a := fun a => by
    unfold key goal
    rw [hA]
    refine congrArg BitVec.toNat (block_row (devAt a) A _ a ?_).symm
    show a.val = 512 * (a.val / 512) + a.val % 512
    omega
  funext i
  obtain ⟨e, y, rfl⟩ : ∃ (e : Fin 512) (y : Fin 256), i = ix2 e y := ⟨i 0, i 1, eq_ix2 i⟩
  rw [gets_apply, hX, block_entry (devAt (sorted m (slotOf c e))) X _ y (sorted m (slotOf c e)) (by
      show (sorted m (slotOf c e)).val = 512 * ((sorted m (slotOf c e)).val / 512) + (sorted m (slotOf c e)).val % 512
      omega)]
  exact ((block_entry c (whole X A) e y (slotOf c e) rfl).trans
    (whole_apply X A (key m) hk (fun a => goal_lt m hB _ _) (slotOf c e) y)).symm

end Blocks

/-- The idealized kernel's results are the reference's, each device's its block. -/
theorem algebraic : Cert.algebraic_KernelIdeal_ReferenceIdeal := by
  intro m g m' g' hpre hagree
  have hB : ∀ c, Balanced (given m c) := fun c => balanced_of_pre _ _ (hpre c)
  refine ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨((h.1 c).2.2.trans (result_eq m _ c)).trans ?_, (h.1 c).1, (h.1 c).2.1⟩)
      (run (F := Ideal) m _ g (fits m hB))
    exact result_block m _ _ hB (fun c => (hagree c).1) (fun c => (hagree c).2) c
  · exact (θ_run Cert.ReferenceIdeal.defs _ _).mono (fun _ h => h 0) (Cert.ReferenceIdeal.Value.run m' g')

end Cert.Proof.Talk

end
-- ==== Proof.lean ====
module

public import proofs.«01_k».proof.Defs
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_balanced_Kernel
public import proofs.«01_k».proof.Proof.Gen.Pre_balanced_ReferenceIdeal

@[expose] public section

noncomputable section

namespace Cert.Proof

/-- Everything that is claimed. -/
theorem claim : Cert.Claim :=
  ⟨Cert.Kernel.Gen.facts, Cert.KernelIdeal.Gen.facts, Cert.ReferenceIdeal.Gen.facts, Cert.Pre_balanced_Kernel.Gen.facts,
    Cert.Pre_balanced_ReferenceIdeal.Gen.facts, Talk.frame_kernel, Talk.frame_kernelIdeal, Talk.frame_reference,
    Talk.frame_reference_balanced, trivial, Talk.algebraic⟩

end Cert.Proof

end
